-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x128 : Shape := ⟨3, ![16, 4096, 128]⟩
abbrev S16x4096 : Shape := ⟨2, ![16, 4096]⟩
abbrev S128x128 : Shape := ⟨2, ![128, 128]⟩
abbrev S128 : Shape := ⟨1, ![128]⟩
abbrev S96x128 : Shape := ⟨2, ![96, 128]⟩
abbrev S1x4096x128 : Shape := ⟨3, ![1, 4096, 128]⟩
abbrev S16x128 : Shape := ⟨2, ![16, 128]⟩
abbrev S4096x128 : Shape := ⟨2, ![4096, 128]⟩
abbrev S1x4096 : Shape := ⟨2, ![1, 4096]⟩
abbrev S10x16x128 : Shape := ⟨3, ![10, 16, 128]⟩
abbrev S10x1x16 : Shape := ⟨3, ![10, 1, 16]⟩
abbrev S1x16x128 : Shape := ⟨3, ![1, 16, 128]⟩
abbrev S1x1x16 : Shape := ⟨3, ![1, 1, 16]⟩
abbrev S16 : Shape := ⟨1, ![16]⟩
abbrev S16x1 : Shape := ⟨2, ![16, 1]⟩
abbrev S16x8x128 : Shape := ⟨3, ![16, 8, 128]⟩
abbrev S6x16x128 : Shape := ⟨3, ![6, 16, 128]⟩
abbrev S16x16x128 : Shape := ⟨3, ![16, 16, 128]⟩
abbrev S6x4096 : Shape := ⟨2, ![6, 4096]⟩
abbrev S6 : Shape := ⟨1, ![6]⟩
abbrev S6x1 : Shape := ⟨2, ![6, 1]⟩
abbrev S6x16 : Shape := ⟨2, ![6, 16]⟩
abbrev S10x16 : Shape := ⟨2, ![10, 16]⟩
abbrev S16x16 : Shape := ⟨2, ![16, 16]⟩
abbrev S16x16x1 : Shape := ⟨3, ![16, 16, 1]⟩
abbrev S16x1x16 : Shape := ⟨3, ![16, 1, 16]⟩
abbrev S16x16x16 : Shape := ⟨3, ![16, 16, 16]⟩
abbrev S16x8x16 : Shape := ⟨3, ![16, 8, 16]⟩
abbrev S1x8x16 : Shape := ⟨3, ![1, 8, 16]⟩
abbrev S8x16 : Shape := ⟨2, ![8, 16]⟩
abbrev S8x128 : Shape := ⟨2, ![8, 128]⟩
abbrev S1x128 : Shape := ⟨2, ![1, 128]⟩
abbrev S128x1 : Shape := ⟨2, ![128, 1]⟩

abbrev nBuf : Space → Nat
  | .hbm => 10
  | .vmem => 21
  | .smem => 0
  | _ => 0

abbrev bufTy : (tb : Table) → Fin (tcTables nBuf tb) → BufTy
  | .hbm, ⟨0, _⟩ => ⟨S16x4096x128, .f32⟩
  | .hbm, ⟨1, _⟩ => ⟨S16x4096, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S96x128, .f32⟩
  | .hbm, ⟨7, _⟩ => ⟨S10x16x128, .f32⟩
  | .hbm, ⟨8, _⟩ => ⟨S10x1x16, .i32⟩
  | .hbm, ⟨9, _⟩ => ⟨S16x8x128, .f32⟩
  | .local _ .vmem, ⟨0, _⟩ => ⟨S1x4096x128, .f32⟩
  | .local _ .vmem, ⟨1, _⟩ => ⟨S1x4096x128, .f32⟩
  | .local _ .vmem, ⟨2, _⟩ => ⟨S16x4096, .i32⟩
  | .local _ .vmem, ⟨3, _⟩ => ⟨S16x128, .f32⟩
  | .local _ .vmem, ⟨4, _⟩ => ⟨S16x128, .f32⟩
  | .local _ .vmem, ⟨5, _⟩ => ⟨S1x4096x128, .f32⟩
  | .local _ .vmem, ⟨6, _⟩ => ⟨S1x4096x128, .f32⟩
  | .local _ .vmem, ⟨7, _⟩ => ⟨S16x4096, .i32⟩
  | .local _ .vmem, ⟨8, _⟩ => ⟨S1x16x128, .f32⟩
  | .local _ .vmem, ⟨9, _⟩ => ⟨S1x16x128, .f32⟩
  | .local _ .vmem, ⟨10, _⟩ => ⟨S1x1x16, .i32⟩
  | .local _ .vmem, ⟨11, _⟩ => ⟨S1x1x16, .i32⟩
  | .local _ .vmem, ⟨12, _⟩ => ⟨S96x128, .f32⟩
  | .local _ .vmem, ⟨13, _⟩ => ⟨S10x16x128, .f32⟩
  | .local _ .vmem, ⟨14, _⟩ => ⟨S10x1x16, .i32⟩
  | .local _ .vmem, ⟨15, _⟩ => ⟨S16x4096, .i32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S16x8x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20

abbrev nD : Nat := 1
abbrev τ : Topo := Topo.v7x

variable {F : FTy → Type} [FloatOps F]

abbrev grid0 : Pipeline.Grid := ⟨1, ![6], ![false]⟩

def k0_off1 (i : grid0.Coords) : Fin 2 → Nat :=
  let arg0 : BitVec 32 := BitVec.ofNat 32 (i 0).val
  let v2 : Index := Scalar.indexCast arg0
  let c0_2 : Index := 0#32
  ![v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_off1 (i : grid1.Coords) : Fin 2 → Nat :=
  let c6_i32 : BitVec 32 := 6#32
  let arg0 : BitVec 32 := BitVec.ofNat 32 (i 0).val
  let v2 : BitVec 32 := Scalar.addi c6_i32 arg0
  let v3 : Index := Scalar.indexCast v2
  let c0_2 : Index := 0#32
  ![v3.toNat, 0]
def cc1_transform_0 (i : grid1.Coords) : Fin 3 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x4096 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x16 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S96x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S10x16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10x1x16 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x4096 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x8x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]
-- ==== ReferenceIdeal.lean ====
abbrev S16x4096x128 : Shape := ⟨3, ![16, 4096, 128]⟩
abbrev S16x4096 : Shape := ⟨2, ![16, 4096]⟩
abbrev S128x128 : Shape := ⟨2, ![128, 128]⟩
abbrev S128 : Shape := ⟨1, ![128]⟩
abbrev S16 : Shape := ⟨1, ![16]⟩
abbrev S16x1 : Shape := ⟨2, ![16, 1]⟩
abbrev S_ : Shape := ⟨0, ![]⟩
abbrev S16x16x128 : Shape := ⟨3, ![16, 16, 128]⟩
abbrev S16x4096x1 : Shape := ⟨3, ![16, 4096, 1]⟩
abbrev S16x4096x2 : Shape := ⟨3, ![16, 4096, 2]⟩
abbrev S16x16 : Shape := ⟨2, ![16, 16]⟩
abbrev S16x16x1 : Shape := ⟨3, ![16, 16, 1]⟩
abbrev S16x8 : Shape := ⟨2, ![16, 8]⟩
abbrev S16x8x1 : Shape := ⟨3, ![16, 8, 1]⟩
abbrev S16x8x2 : Shape := ⟨3, ![16, 8, 2]⟩
abbrev S16x8x128 : Shape := ⟨3, ![16, 8, 128]⟩
abbrev S1x1x128 : Shape := ⟨3, ![1, 1, 128]⟩

abbrev nBuf : Space → Nat
  | .hbm => 130
  | .vmem => 0
  | .smem => 0
  | _ => 0

abbrev hbmTy0_0 (i : Nat) : BufTy := match i % 128 with
  | 0 => ⟨S16x4096x128, .f32⟩
  | 1 => ⟨S16x4096, .i32⟩
  | 2 => ⟨S128x128, .f32⟩
  | 3 => ⟨S128, .f32⟩
  | 4 => ⟨S128, .f32⟩
  | 5 => ⟨S128, .f32⟩
  | 6 => ⟨S16, .i32⟩
  | 7 => ⟨S16x1, .i32⟩
  | 8 => ⟨S_, .i32⟩
  | 9 => ⟨S16x4096, .i32⟩
  | 10 => ⟨S_, .f32⟩
  | 11 => ⟨S16x16x128, .f32⟩
  | 12 => ⟨S16x4096, .i32⟩
  | 13 => ⟨S16x4096x1, .i32⟩
  | 14 => ⟨S16x4096x1, .i32⟩
  | 15 => ⟨S16x4096x2, .i32⟩
  | 16 => ⟨S16x16x128, .f32⟩
  | 17 => ⟨S_, .i32⟩
  | 18 => ⟨S16x16, .i32⟩
  | 19 => ⟨S16x4096, .i32⟩
  | 20 => ⟨S16x4096x1, .i32⟩
  | 21 => ⟨S16x4096x1, .i32⟩
  | 22 => ⟨S16x4096x2, .i32⟩
  | 23 => ⟨S16x16, .i32⟩
  | 24 => ⟨S_, .i32⟩
  | 25 => ⟨S16x16, .i32⟩
  | 26 => ⟨S16x16, .i32⟩
  | 27 => ⟨S16x16x1, .i32⟩
  | 28 => ⟨S16x16x1, .f32⟩
  | 29 => ⟨S16x16x128, .f32⟩
  | 30 => ⟨S16x16x128, .f32⟩
  | 31 => ⟨S16x16, .i32⟩
  | 32 => ⟨S16x16, .i32⟩
  | 33 => ⟨S16x16, .i32⟩
  | 34 => ⟨S16x16, .i32⟩
  | 35 => ⟨S16x8, .i32⟩
  | 36 => ⟨S_, .i32⟩
  | 37 => ⟨S16x1, .i32⟩
  | 38 => ⟨S16x1, .i1⟩
  | 39 => ⟨S_, .i32⟩
  | 40 => ⟨S16x1, .i32⟩
  | 41 => ⟨S16x1, .i32⟩
  | 42 => ⟨S16x1, .i32⟩
  | 43 => ⟨S_, .i32⟩
  | 44 => ⟨S16x8, .i32⟩
  | 45 => ⟨S16x8, .i1⟩
  | 46 => ⟨S_, .i32⟩
  | 47 => ⟨S16x8, .i32⟩
  | 48 => ⟨S16x8, .i32⟩
  | 49 => ⟨S16x8, .i32⟩
  | 50 => ⟨S16x8, .i32⟩
  | 51 => ⟨S16x8x1, .i32⟩
  | 52 => ⟨S16x8x1, .i32⟩
  | 53 => ⟨S16x8x2, .i32⟩
  | 54 => ⟨S16x8x128, .f32⟩
  | 55 => ⟨S_, .i32⟩
  | 56 => ⟨S16x1, .i32⟩
  | 57 => ⟨S16x1, .i1⟩
  | 58 => ⟨S_, .i32⟩
  | 59 => ⟨S16x1, .i32⟩
  | 60 => ⟨S16x1, .i32⟩
  | 61 => ⟨S16x1, .i32⟩
  | 62 => ⟨S_, .i32⟩
  | 63 => ⟨S16x8, .i32⟩
  | 64 => ⟨S16x8, .i1⟩
  | 65 => ⟨S_, .i32⟩
  | 66 => ⟨S16x8, .i32⟩
  | 67 => ⟨S16x8, .i32⟩
  | 68 => ⟨S16x8, .i32⟩
  | 69 => ⟨S16x8, .i32⟩
  | 70 => ⟨S16x8x1, .i32⟩
  | 71 => ⟨S16x8x1, .i32⟩
  | 72 => ⟨S16x8x2, .i32⟩
  | 73 => ⟨S16x8, .i32⟩
  | 74 => ⟨S_, .i32⟩
  | 75 => ⟨S16x8, .i32⟩
  | 76 => ⟨S16x8, .i1⟩
  | 77 => ⟨S16x8, .f32⟩
  | 78 => ⟨S16x8x1, .f32⟩
  | 79 => ⟨S16x8x128, .f32⟩
  | 80 => ⟨S16x8x128, .f32⟩
  | 81 => ⟨S128x128, .f32⟩
  | 82 => ⟨S16x8x128, .f32⟩
  | 83 => ⟨S1x1x128, .f32⟩
  | 84 => ⟨S16x8x128, .f32⟩
  | 85 => ⟨S16x8x128, .f32⟩
  | 86 => ⟨S_, .f32⟩
  | 87 => ⟨S16x8, .f32⟩
  | 88 => ⟨S16x8x1, .f32⟩
  | 89 => ⟨S_, .f32⟩
  | 90 => ⟨S16x8x1, .f32⟩
  | 91 => ⟨S16x8x1, .f32⟩
  | 92 => ⟨S_, .i32⟩
  | 93 => ⟨S_, .f32⟩
  | 94 => ⟨S16x8, .f32⟩
  | 95 => ⟨S16x8x1, .f32⟩
  | 96 => ⟨S_, .f32⟩
  | 97 => ⟨S16x8x1, .f32⟩
  | 98 => ⟨S16x8x1, .f32⟩
  | 99 => ⟨S16x8x128, .f32⟩
  | 100 => ⟨S16x8x128, .f32⟩
  | 101 => ⟨S16x8x128, .f32⟩
  | 102 => ⟨S_, .f32⟩
  | 103 => ⟨S_, .f32⟩
  | 104 => ⟨S_, .f32⟩
  | 105 => ⟨S_, .f32⟩
  | 106 => ⟨S16x8, .f32⟩
  | 107 => ⟨S16x8x1, .f32⟩
  | 108 => ⟨S16x8x1, .f32⟩
  | 109 => ⟨S16x8x1, .f32⟩
  | 110 => ⟨S_, .f32⟩
  | 111 => ⟨S_, .i1⟩
  | 112 => ⟨S_, .f32⟩
  | 113 => ⟨S_, .f32⟩
  | 114 => ⟨S16x8x1, .f32⟩
  | 115 => ⟨S16x8x1, .f32⟩
  | 116 => ⟨S16x8x128, .f32⟩
  | 117 => ⟨S16x8x128, .f32⟩
  | 118 => ⟨S_, .f32⟩
  | 119 => ⟨S16x8x1, .f32⟩
  | 120 => ⟨S16x8x1, .f32⟩
  | 121 => ⟨S16x8x1, .f32⟩
  | 122 => ⟨S16x8x128, .f32⟩
  | 123 => ⟨S16x8x128, .f32⟩
  | 124 => ⟨S1x1x128, .f32⟩
  | 125 => ⟨S16x8x128, .f32⟩
  | 126 => ⟨S16x8x128, .f32⟩
  | 127 => ⟨S1x1x128, .f32⟩
  | _ => ⟨S16x4096x128, .f32⟩

abbrev hbmTy0_1 (i : Nat) : BufTy := match i % 128 with
  | 0 => ⟨S16x8x128, .f32⟩
  | 1 => ⟨S16x8x128, .f32⟩
  | _ => ⟨S16x4096x128, .f32⟩

abbrev hbmTy (i : Nat) : BufTy := match i / 128 with
  | 0 => hbmTy0_0 i
  | 1 => hbmTy0_1 i
  | _ => ⟨S16x4096x128, .f32⟩

abbrev bufTy : (tb : Table) → Fin (tcTables nBuf tb) → BufTy
  | .hbm, ⟨i, _⟩ => hbmTy i
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1_0 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_cst_1 : Ref sig .tc := ⟨.hbm, 103, rfl⟩
abbrev main_call1_v8 : Ref sig .tc := ⟨.hbm, 104, rfl⟩
abbrev main_call1_cst_2 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_cst_3 : Ref sig .tc := ⟨.hbm, 110, rfl⟩
abbrev main_call1_v13 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_14 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩

abbrev nD : Nat := 1
abbrev τ : Topo := Topo.v7x

variable {F : FTy → Type} [FloatOps F]
-- ==== Proof.Regions.lean ====
/- The three kernel regions' result arrays as functions of the arrays they read (hand-written, untrusted). -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen

variable {F : FTy → Type} [FloatOps F]
variable (V : (c : Dev nD) → (b : Ref sig .tc) → Buf (Elt F) ((c : Thread nD τ).loc b))

/-- Batch `b` of the features, as the kernels stage it. -/
def feat (X : Vec F S16x4096x128 .f32) (b : Fin 16) : Vec F S1x4096x128 .f32 := fun y => X (ix3 b (y 1) (y 2))

/-- Batch `b`'s segment ids, as the kernels load them. -/
def ids (I : Vec F S16x4096 .i32) (b : Fin 16) : Vec F S1x4096 .i32 := fun y => I (ix2 b (y 1))

/-- The first region's result: rows `16 b + s` for batches `b < 6`. -/
def sums0 (X : Vec F S16x4096x128 .f32) (I : Vec F S16x4096 .i32) : Vec F S96x128 .f32 := fun i =>
  have h : (i 0 : ℕ) < 96 := (i 0).isLt
  k0_pay1 (feat X ⟨(i 0 : ℕ) / 16, by omega⟩) (ids I ⟨(i 0 : ℕ) / 16, by omega⟩) (ix2 ⟨(i 0 : ℕ) % 16, by omega⟩ (i 1))

theorem sums0_at (X : Vec F S16x4096x128 .f32) (I : Vec F S16x4096 .i32) (i : S96x128.Idx) (b s : Fin 16) (d : Fin 128)
    (h0 : (i 0 : ℕ) = 16 * b + s) (h1 : (i 1 : ℕ) = d) :
    sums0 X I i = k0_pay1 (feat X b) (ids I b) (ix2 s d) := by
  have hb : ∀ h, (⟨(i 0 : ℕ) / 16, h⟩ : Fin 16) = b := fun h => Fin.ext (by show (i 0 : ℕ) / 16 = b; omega)
  have hs : ∀ h, (⟨(i 0 : ℕ) % 16, h⟩ : Fin 16) = s := fun h => Fin.ext (by show (i 0 : ℕ) % 16 = s; omega)
  have hd : (i 1 : Fin 128) = d := Fin.ext h1
  unfold sums0
  simp only [hb, hs, hd]

theorem idx0 : ∀ t : Fin cfg0.N, win0_0.index t = ![t.val, 0, 0] ∧ win0_1.index t = ![0, 0] ∧ win0_2.index t = ![t.val, 0]
    ∧ (grid0.coords t 0).val = t.val ∧ k0_off1 (grid0.coords t) = ![t.val, 0] :=
  (by decide +kernel : ∀ t : Fin grid0.N, _)

theorem lt0 : ∀ t : Fin cfg0.N, t.val < 6 := (by decide +kernel : ∀ t : Fin grid0.N, _)

theorem feat0 (c : Dev nD) (t : Fin cfg0.N) (b : Fin 16) (hb : t.val = b.val) : iblk0 V c 0 t = feat (V c main_arg0) b := by
  obtain ⟨h0, -, -, -, -⟩ := idx0 t
  blk_ext! [iblk0, feat, h0]

theorem ids0 (c : Dev nD) (t : Fin cfg0.N) (b : Fin 16) (hb : t.val = b.val) (h) :
    View.ld (iblk0 V c 1 t) (Rect.unit (s := S16x4096) (k0_off1 (grid0.coords t)) ![1, 4096] h) = ids (V c main_arg1) b := by
  obtain ⟨-, h1, -, -, h2⟩ := idx0 t
  funext y
  unfold View.ld iblk0 ids
  blk_simp
  refine congrArg (V c main_arg1) ?_
  blk_ext [h1]
  · rw [Rect.idx_unit_val]; simp; exact (congrFun h2 0).trans hb
  · rw [Rect.idx_unit_val]; simp; exact congrFun h2 1

theorem final0 (c : Dev nD) : (dat0 V c).arrAt 2 cfg0.N
    = sums0 (V c main_arg0) (V c main_arg1) := by
  refine (dat0 V c).arrAt_eq_of_covers 2 _ (by decide +kernel) fun t _ y => ?_
  blk_simp
  rw [after0_2]
  unfold outsAt0
  frame_out
  have ht := lt0 t
  rw [feat0 V c t ⟨t.val, by omega⟩ rfl, ids0 V c t ⟨t.val, by omega⟩ rfl _]
  obtain ⟨-, -, h2, -, -⟩ := idx0 t
  refine Eq.trans ?_ (sums0_at _ _ _ ⟨t.val, by omega⟩ (y 0) (y 1) ?_ ?_).symm
  · congr 1; ext a; fin_cases a <;> rfl
  · blk_simp [h2]
    show _ = 16 * t.val + _
    omega
  · blk_simp [h2]

/-- The second region's sums: batch `6 + i` at `i`. -/
def sums1 (X : Vec F S16x4096x128 .f32) (I : Vec F S16x4096 .i32) : Vec F S10x16x128 .f32 := fun i =>
  have h : (i 0 : ℕ) < 10 := (i 0).isLt
  k1_pay2 (feat X ⟨6 + (i 0 : ℕ), by omega⟩) (ids I ⟨6 + (i 0 : ℕ), by omega⟩) (ix3 0 (i 1) (i 2))

/-- The second region's counts: batch `6 + i` at `i`. -/
def cnts1 (I : Vec F S16x4096 .i32) : Vec F S10x1x16 .i32 := fun i =>
  have h : (i 0 : ℕ) < 10 := (i 0).isLt
  k1_pay3 (ids (F := F) I ⟨6 + (i 0 : ℕ), by omega⟩) (ix3 0 0 (i 2))

theorem sums1_at (X : Vec F S16x4096x128 .f32) (I : Vec F S16x4096 .i32) (i : S10x16x128.Idx) (b s : Fin 16) (d : Fin 128)
    (h0 : 6 + (i 0 : ℕ) = b) (h1 : (i 1 : ℕ) = s) (h2 : (i 2 : ℕ) = d) :
    sums1 X I i = k1_pay2 (feat X b) (ids I b) (ix3 0 s d) := by
  have hb : ∀ h, (⟨6 + (i 0 : ℕ), h⟩ : Fin 16) = b := fun h => Fin.ext h0
  have hs : (i 1 : Fin 16) = s := Fin.ext h1
  have hd : (i 2 : Fin 128) = d := Fin.ext h2
  unfold sums1
  simp only [hb, hs, hd]

theorem cnts1_at (I : Vec F S16x4096 .i32) (i : S10x1x16.Idx) (b s : Fin 16)
    (h0 : 6 + (i 0 : ℕ) = b) (h1 : (i 2 : ℕ) = s) :
    cnts1 (F := F) I i = k1_pay3 (ids (F := F) I b) (ix3 0 0 s) := by
  have hb : ∀ h, (⟨6 + (i 0 : ℕ), h⟩ : Fin 16) = b := fun h => Fin.ext h0
  have hs : (i 2 : Fin 16) = s := Fin.ext h1
  unfold cnts1
  simp only [hb, hs]

theorem idx1 : ∀ t : Fin cfg1.N, win1_0.index t = ![6 + t.val, 0, 0] ∧ win1_1.index t = ![0, 0] ∧ win1_2.index t = ![t.val, 0, 0]
    ∧ win1_3.index t = ![t.val, 0, 0] ∧ k1_off1 (grid1.coords t) = ![6 + t.val, 0] :=
  (by decide +kernel : ∀ t : Fin grid1.N, _)

theorem lt1 : ∀ t : Fin cfg1.N, t.val < 10 := (by decide +kernel : ∀ t : Fin grid1.N, _)

theorem feat1 (c : Dev nD) (t : Fin cfg1.N) (b : Fin 16) (hb : 6 + t.val = b.val) : iblk1 V c 0 t = feat (V c main_arg0) b := by
  obtain ⟨h0, -, -, -, -⟩ := idx1 t
  blk_ext! [iblk1, feat, h0]

theorem ids1 (c : Dev nD) (t : Fin cfg1.N) (b : Fin 16) (hb : 6 + t.val = b.val) (h) :
    View.ld (iblk1 V c 1 t) (Rect.unit (s := S16x4096) (k1_off1 (grid1.coords t)) ![1, 4096] h) = ids (V c main_arg1) b := by
  obtain ⟨-, h1, -, -, h2⟩ := idx1 t
  funext y
  unfold View.ld iblk1 ids
  blk_simp
  refine congrArg (V c main_arg1) ?_
  blk_ext [h1]
  · rw [Rect.idx_unit_val]; simp; exact (congrFun h2 0).trans hb
  · rw [Rect.idx_unit_val]; simp; exact congrFun h2 1

theorem final1_sums (c : Dev nD) : (dat1 V c).arrAt 2 cfg1.N = sums1 (V c main_arg0) (V c main_arg1) := by
  refine (dat1 V c).arrAt_eq_of_covers 2 _ (by decide +kernel) fun t _ y => ?_
  have ht := lt1 t
  blk_simp
  rw [after1_2]
  unfold outsAt1
  frame_out
  rw [feat1 V c t ⟨6 + t.val, by omega⟩ rfl, ids1 V c t ⟨6 + t.val, by omega⟩ rfl _]
  obtain ⟨-, -, h2, -, -⟩ := idx1 t
  have hy0 : ((y 0 : Fin 1) : ℕ) = 0 := Nat.lt_one_iff.mp (y 0).isLt
  refine Eq.trans ?_ (sums1_at _ _ _ ⟨6 + t.val, by omega⟩ (y 1) (y 2) ?_ ?_ ?_).symm
  · congr 1; ext a; fin_cases a
    · exact hy0
    · rfl
    · rfl
  · blk_simp [h2]
    trace_state
  · blk_simp [h2]
  · blk_simp [h2]

theorem final1_cnts (c : Dev nD) : (dat1 V c).arrAt 3 cfg1.N = cnts1 (F := F) (V c main_arg1) := by
  refine (dat1 V c).arrAt_eq_of_covers 3 _ (by decide +kernel) fun t _ y => ?_
  have ht := lt1 t
  blk_simp
  rw [after1_3]
  unfold outsAt1
  frame_out
  rw [ids1 V c t ⟨6 + t.val, by omega⟩ rfl _]
  obtain ⟨-, -, -, h2, -⟩ := idx1 t
  have hy0 : ((y 0 : Fin 1) : ℕ) = 0 := Nat.lt_one_iff.mp (y 0).isLt
  have hy1 : ((y 1 : Fin 1) : ℕ) = 0 := Nat.lt_one_iff.mp (y 1).isLt
  refine Eq.trans ?_ (cnts1_at _ _ ⟨6 + t.val, by omega⟩ (y 2) ?_ ?_).symm
  · congr 1; ext a; fin_cases a
    · exact hy0
    · exact hy1
    · rfl
  · blk_simp [h2]
    trace_state
  · blk_simp [h2]

end Cert.KernelIdeal.Regions

end
-- ==== Proof.Cls.lean ====
/- Extended reals up to the sign of infinity (hand-written, untrusted).

   The kernel adds a high part and a low part, `x` and `x - x`, where the reference has `x` alone. On the extended reals the
   two sums are the same real, or both infinite, possibly with different signs. `cls` forgets the sign: it maps the two
   infinities to `⊤` of `WithTop ℝ` and is additive and multiplicative. The layer normalization that ends both programs
   depends on the classes of its row alone (`norm_congr`), so no finiteness of the inputs is needed. -/
module

public import Idealize.ShloMosaic.PureOps.Ideal
public import Idealize.ShloMosaic.Lib.IdealHost

@[expose] public section

noncomputable section

namespace Cert.SegPool

open Idealize.ShloMosaic

/-- The class of an extended real: the real it is, or `⊤` for either infinity. -/
def cls : EReal → WithTop ℝ
  | ⊥ => ⊤
  | ⊤ => ⊤
  | (r : ℝ) => (r : WithTop ℝ)

@[simp] theorem cls_coe (r : ℝ) : cls (r : EReal) = (r : WithTop ℝ) := rfl
@[simp] theorem cls_top : cls ⊤ = ⊤ := rfl
@[simp] theorem cls_bot : cls ⊥ = ⊤ := rfl
@[simp] theorem cls_zero : cls 0 = 0 := rfl
@[simp] theorem cls_one : cls 1 = 1 := rfl

theorem cls_add (x y : EReal) : cls (x + y) = cls x + cls y := by
  induction x using EReal.rec <;> induction y using EReal.rec <;> first | rfl | (rw [← EReal.coe_add]; rfl) | simp

theorem cls_mul (x y : EReal) : cls (x * y) = cls x * cls y := by
  have key : ∀ (t : EReal) (r : ℝ), (t = ⊤ ∨ t = ⊥) → cls (t * (r : EReal)) = ⊤ * (r : WithTop ℝ) := by
    intro t r ht
    rcases lt_trichotomy r 0 with h | h | h
    · rw [WithTop.top_mul (by exact_mod_cast h.ne)]
      rcases ht with rfl | rfl
      · rw [EReal.top_mul_coe_of_neg h]; rfl
      · rw [EReal.bot_mul_coe_of_neg h]; rfl
    · subst h
      have e : ((0 : ℝ) : WithTop ℝ) = 0 := rfl
      rw [EReal.coe_zero, mul_zero, e, mul_zero]; rfl
    · rw [WithTop.top_mul (by exact_mod_cast h.ne')]
      rcases ht with rfl | rfl
      · rw [EReal.top_mul_coe_of_pos h]; rfl
      · rw [EReal.bot_mul_coe_of_pos h]; rfl
  induction x using EReal.rec with
  | bot =>
    induction y using EReal.rec with
    | bot => simp
    | top => simp
    | coe r => exact key ⊥ r (.inr rfl)
  | top =>
    induction y using EReal.rec with
    | bot => simp
    | top => simp
    | coe r => exact key ⊤ r (.inl rfl)
  | coe q =>
    induction y using EReal.rec with
    | bot => rw [mul_comm, key ⊥ q (.inr rfl), mul_comm]; rfl
    | top => rw [mul_comm, key ⊤ q (.inl rfl), mul_comm]; rfl
    | coe r => rw [← EReal.coe_mul, cls_coe, cls_coe, cls_coe, WithTop.coe_mul]

/-- `cls` as an additive map. -/
def clsHom : EReal →+ WithTop ℝ where
  toFun := cls
  map_zero' := cls_zero
  map_add' := cls_add

theorem cls_sum {ι : Type} (s : Finset ι) (f : ι → EReal) : cls (∑ i ∈ s, f i) = ∑ i ∈ s, cls (f i) :=
  map_sum clsHom f s

theorem cls_sub_self (x : EReal) : cls (x - x) = if cls x = ⊤ then ⊤ else 0 := by
  induction x using EReal.rec with
  | bot => simp
  | top => simp
  | coe r => rw [← EReal.coe_sub, sub_self, cls_coe, cls_coe, if_neg WithTop.coe_ne_top]; rfl

theorem cls_eq_coe {x : EReal} {r : ℝ} (h : cls x = r) : x = r := by
  induction x using EReal.rec with
  | bot => exact absurd h.symm WithTop.coe_ne_top
  | top => exact absurd h.symm WithTop.coe_ne_top
  | coe q => rw [WithTop.coe_eq_coe.mp h]

/-- A product whose right factor is split into a high part and a low part. -/
theorem cls_split_right (a b : EReal) : cls a * cls b + cls a * cls (b - b) = cls a * cls b := by
  rw [cls_sub_self]
  split
  · next h =>
    rw [h]
    by_cases ha : cls a = 0
    · rw [ha]; simp
    · rw [WithTop.mul_top ha]; rfl
  · rw [mul_zero, add_zero]

/-- The three products kept of a product whose two factors are both split. -/
theorem cls_split_both (a b : EReal) :
    cls a * cls b + cls a * cls (b - b) + cls (a - a) * cls b = cls a * cls b := by
  rw [cls_split_right, mul_comm (cls (a - a)), mul_comm (cls a), cls_split_right]

/-- A contraction against the two parts of `y`. -/
theorem cls_dot_split {n : ℕ} (x y : Fin n → EReal) :
    cls ((∑ k, x k * y k) + ∑ k, x k * (y k - y k)) = ∑ k, cls (x k) * cls (y k) := by
  rw [cls_add, cls_sum, cls_sum, ← Finset.sum_add_distrib]
  refine Finset.sum_congr rfl fun k _ => ?_
  rw [cls_mul, cls_mul, cls_split_right]

/-- A contraction of the two parts of `x` against the two parts of `y`, the product of the low parts left out. -/
theorem cls_dot_split3 {n : ℕ} (x y : Fin n → EReal) :
    cls ((∑ k, x k * y k) + (∑ k, x k * (y k - y k)) + ∑ k, (x k - x k) * y k) = ∑ k, cls (x k) * cls (y k) := by
  rw [cls_add, cls_add, cls_sum, cls_sum, cls_sum, ← Finset.sum_add_distrib, ← Finset.sum_add_distrib]
  refine Finset.sum_congr rfl fun k _ => ?_
  rw [cls_mul, cls_mul, cls_mul, cls_split_both]

/-! ## The layer normalization -/

/-- The mean of a row. -/
def mean (n : EReal) (f : Fin 128 → EReal) : EReal := Ideal.div (∑ j, f j) n

/-- The variance of a row. -/
def var (n : EReal) (f : Fin 128 → EReal) : EReal :=
  Ideal.div (∑ j, (f j - mean n f) * (f j - mean n f)) n

theorem coe_sum {n : ℕ} (f : Fin n → ℝ) : (∑ j, ((f j : ℝ) : EReal)) = ((∑ j, f j : ℝ) : EReal) :=
  (map_sum (⟨⟨Real.toEReal, EReal.coe_zero⟩, EReal.coe_add⟩ : ℝ →+ EReal) f Finset.univ).symm

theorem cls_mul_pos {r : ℝ} (hr : r ≠ 0) {x : EReal} (h : cls x = ⊤) : cls (x * (r : EReal)) = ⊤ := by
  rw [cls_mul, h, cls_coe, WithTop.top_mul]
  exact_mod_cast hr

/-- A row with an infinite entry: its mean is infinite, every centred entry is infinite, its variance is `⊤`. -/
theorem var_of_inf {n : ℝ} (hn : 0 < n) (f : Fin 128 → EReal) {i : Fin 128} (hi : cls (f i) = ⊤) :
    var (n : EReal) f = ⊤ := by
  have hs : cls (∑ j, f j) = ⊤ := by
    rw [cls_sum]; exact WithTop.sum_eq_top.mpr ⟨i, Finset.mem_univ i, hi⟩
  have hm : cls (mean (n : EReal) f) = ⊤ := by
    unfold mean
    rw [Ideal.div_coe hn.ne']
    exact cls_mul_pos (one_div_ne_zero hn.ne') hs
  have hm' : mean (n : EReal) f = ⊤ ∨ mean (n : EReal) f = ⊥ := by
    generalize mean (n : EReal) f = u at hm
    induction u using EReal.rec with
    | bot => exact .inr rfl
    | top => exact .inl rfl
    | coe r => exact absurd hm WithTop.coe_ne_top
  have hx : ∀ j, (f j - mean (n : EReal) f) * (f j - mean (n : EReal) f) = ⊤ := by
    intro j
    have hc : cls (f j - mean (n : EReal) f) = ⊤ := by
      rw [sub_eq_add_neg, cls_add]
      have : cls (-mean (n : EReal) f) = ⊤ := by rcases hm' with h | h <;> rw [h] <;> rfl
      rw [this, WithTop.add_top]
    generalize f j - mean (n : EReal) f = u at hc
    induction u using EReal.rec with
    | bot => rfl
    | top => rfl
    | coe r => exact absurd hc WithTop.coe_ne_top
  unfold var
  rw [Ideal.div_coe hn.ne', Finset.sum_congr rfl fun j _ => hx j]
  have hsum : (∑ _j : Fin 128, (⊤ : EReal)) = ⊤ := by
    rw [Fin.sum_univ_succ]
    refine EReal.top_add_of_ne_bot fun h => ?_
    have : (0 : EReal) ≤ ∑ _i : Fin 127, (⊤ : EReal) := Finset.sum_nonneg fun _ _ => le_top
    rw [h] at this
    exact absurd this (by simp)
  rw [hsum]
  exact EReal.top_mul_coe_of_pos (by positivity)

/-- A row of reals: its variance is a real, not negative. -/
theorem var_of_real {n : ℝ} (hn : 0 < n) (f : Fin 128 → ℝ) :
    ∃ v : ℝ, 0 ≤ v ∧ var (n : EReal) (fun j => (f j : EReal)) = (v : EReal) := by
  have hm : mean (n : EReal) (fun j => (f j : EReal)) = (((∑ j, f j) * (1 / n) : ℝ) : EReal) := by
    unfold mean
    rw [Ideal.div_coe hn.ne', coe_sum, ← EReal.coe_mul]
  refine ⟨(∑ j, (f j - (∑ j, f j) * (1 / n)) * (f j - (∑ j, f j) * (1 / n))) * (1 / n), ?_, ?_⟩
  · exact mul_nonneg (Finset.sum_nonneg fun j _ => mul_self_nonneg _) (by positivity)
  · unfold var
    rw [Ideal.div_coe hn.ne', EReal.coe_mul, ← coe_sum]
    congr 1
    refine Finset.sum_congr rfl fun j _ => ?_
    rw [hm, ← EReal.coe_sub, ← EReal.coe_mul]

/-- Two rows of the same classes have the same normalized entries: by the reciprocal square root on one side and by the
    square root on the other. -/
theorem norm_congr {n e : ℝ} (hn : 0 < n) (he : 0 < e) (f g : Fin 128 → EReal) (h : ∀ j, cls (f j) = cls (g j)) (d : Fin 128) :
    (f d - mean (n : EReal) f) * Ideal.rsqrt (var (n : EReal) f + (e : EReal))
      = Ideal.div (g d - mean (n : EReal) g) (Ideal.sqrt (var (n : EReal) g + (e : EReal))) := by
  by_cases hf : ∃ i, cls (f i) = ⊤
  · obtain ⟨i, hi⟩ := hf
    rw [var_of_inf hn f hi, var_of_inf hn g ((h i).symm.trans hi)]
    rw [EReal.top_add_coe, Ideal.rsqrt_top, mul_zero, Ideal.sqrt_top]
    unfold Ideal.div
    rw [if_neg (by simp), EReal.inv_top, mul_zero]
  · have hr : ∀ j, ∃ r : ℝ, f j = (r : EReal) := by
      intro j
      have := fun hj => hf ⟨j, hj⟩
      obtain ⟨r, hr⟩ := WithTop.ne_top_iff_exists.mp this
      exact ⟨r, cls_eq_coe hr.symm⟩
    choose r hr using hr
    obtain rfl : f = fun j => (r j : EReal) := funext hr
    obtain rfl : g = fun j => (r j : EReal) := funext fun j => cls_eq_coe (h j).symm
    obtain ⟨v, hv, ev⟩ := var_of_real hn r
    rw [ev, ← EReal.coe_add]
    have hp : 0 < v + e := by positivity
    rw [Ideal.rsqrt_coe, Ideal.sqrt_coe, if_neg hp.not_gt, if_neg hp.ne', if_neg hp.not_gt,
      Ideal.div_coe (Real.sqrt_pos.mpr hp).ne', one_div]

end Cert.SegPool

end
-- ==== Proof.Spec.lean ====
/- What both programs compute, in the reals with one infinity added (hand-written, untrusted). -/
module

public import proofs.«01_k».proof.Proof.Cls
public import Mathlib.Data.Fintype.Card
public import Mathlib.Order.Interval.Finset.Fin

@[expose] public section

noncomputable section

open Idealize.ShloMosaic

namespace Cert.SegPool

/-- How many of batch `b`'s items carry segment id `s`. -/
def cntN (I : Fin 16 → Fin 4096 → BitVec 32) (b s : Fin 16) : ℕ :=
  (Finset.univ.filter fun n => I b n = BitVec.ofNat 32 s).card

theorem cntN_le (I : Fin 16 → Fin 4096 → BitVec 32) (b s : Fin 16) : cntN I b s ≤ 4096 :=
  (Finset.card_le_univ _).trans (by simp)

/-- The count as the programs hold it. -/
def cnt (I : Fin 16 → Fin 4096 → BitVec 32) (b s : Fin 16) : BitVec 32 := BitVec.ofNat 32 (cntN I b s)

theorem cnt_toNat (I : Fin 16 → Fin 4096 → BitVec 32) (b s : Fin 16) : (cnt I b s).toNat = cntN I b s := by
  have := cntN_le I b s
  rw [cnt, BitVec.toNat_ofNat, Nat.mod_eq_of_lt (by omega)]

theorem cnt_toInt (I : Fin 16 → Fin 4096 → BitVec 32) (b s : Fin 16) : (cnt I b s).toInt = cntN I b s := by
  have := cntN_le I b s
  rw [BitVec.toInt_eq_toNat_of_lt (by rw [cnt_toNat]; omega), cnt_toNat]

/-- A segment's sum of one feature. -/
def segSum (X : Fin 16 → Fin 4096 → Fin 128 → EReal) (I : Fin 16 → Fin 4096 → BitVec 32) (b s : Fin 16) (d : Fin 128) : WithTop ℝ :=
  ∑ n, if I b n = BitVec.ofNat 32 s then cls (X b n d) else 0

/-- A segment's mean of one feature; an empty segment is divided by one. -/
def segMean (X : Fin 16 → Fin 4096 → Fin 128 → EReal) (I : Fin 16 → Fin 4096 → BitVec 32) (b s : Fin 16) (d : Fin 128) : WithTop ℝ :=
  segSum X I b s d * ((1 / ((max (cntN I b s) 1 : ℕ) : ℝ) : ℝ) : WithTop ℝ)

/-- Segment `i` goes before segment `j`: more items, or as many and a smaller id. -/
def Before (I : Fin 16 → Fin 4096 → BitVec 32) (b i j : Fin 16) : Prop :=
  cntN I b j < cntN I b i ∨ (cntN I b i = cntN I b j ∧ i < j)

instance (I : Fin 16 → Fin 4096 → BitVec 32) (b i j : Fin 16) : Decidable (Before I b i j) := by unfold Before; infer_instance

/-- How many segments go before segment `s`. -/
def rank (I : Fin 16 → Fin 4096 → BitVec 32) (b s : Fin 16) : ℕ := (Finset.univ.filter fun i => Before I b i s).card

theorem Before.trans {I : Fin 16 → Fin 4096 → BitVec 32} {b i j k : Fin 16} (h : Before I b i j) (h' : Before I b j k) :
    Before I b i k := by
  unfold Before at *
  omega

theorem Before.irrefl (I : Fin 16 → Fin 4096 → BitVec 32) (b i : Fin 16) : ¬ Before I b i i := by
  unfold Before
  omega

theorem before_total (I : Fin 16 → Fin 4096 → BitVec 32) (b : Fin 16) {i j : Fin 16} (h : i ≠ j) : Before I b i j ∨ Before I b j i := by
  have : i.val ≠ j.val := fun e => h (Fin.ext e)
  unfold Before
  omega

theorem rank_lt {I : Fin 16 → Fin 4096 → BitVec 32} {b i j : Fin 16} (h : Before I b i j) : rank I b i < rank I b j := by
  refine Finset.card_lt_card ⟨fun k hk => ?_, fun hs => ?_⟩
  · simp only [Finset.mem_filter, Finset.mem_univ, true_and] at hk ⊢
    exact hk.trans h
  · have : i ∈ Finset.univ.filter fun k => Before I b k i := hs (by simpa using h)
    exact Before.irrefl I b i (by simpa using this)

theorem rank_inj {I : Fin 16 → Fin 4096 → BitVec 32} {b i j : Fin 16} (h : rank I b i = rank I b j) : i = j := by
  by_contra hne
  rcases before_total I b hne with h' | h'
  · exact absurd (rank_lt h') (by omega)
  · exact absurd (rank_lt h') (by omega)

/-- A rearrangement of the segments with no later one going before an earlier one puts at place `k` the segment of rank
    `k`. -/
theorem rank_sorted (I : Fin 16 → Fin 4096 → BitVec 32) (b : Fin 16) (σ : Fin 16 → Fin 16) (hσ : Function.Bijective σ)
    (h : ∀ i j, i < j → ¬ Before I b (σ j) (σ i)) (k : Fin 16) : rank I b (σ k) = k := by
  have hiff : ∀ i, Before I b (σ i) (σ k) ↔ i < k := fun i => by
    constructor
    · intro hb
      rcases lt_trichotomy i k with h' | h' | h'
      · exact h'
      · exact absurd (h' ▸ hb) (Before.irrefl I b _)
      · exact absurd hb (h k i h')
    · intro hlt
      rcases before_total I b (fun e => hlt.ne (hσ.1 e)) with h' | h'
      · exact h'
      · exact absurd h' (h i k hlt)
  have e : (Finset.univ.filter fun i => Before I b i (σ k)) = (Finset.univ.filter fun i => i < k).image σ := by
    ext j
    obtain ⟨i, rfl⟩ := hσ.2 j
    simp only [Finset.mem_filter, Finset.mem_univ, true_and, Finset.mem_image, hiff]
    exact ⟨fun h => ⟨i, h, rfl⟩, fun ⟨i', h, e⟩ => hσ.1 e ▸ h⟩
  rw [rank, e, Finset.card_image_of_injective _ hσ.1,
    show (Finset.univ.filter fun i => i < k) = Finset.Iio k by ext i; simp, Fin.card_Iio]

/-- The pooled feature at place `k`: the mean of the segment of rank `k`, zero when that segment is empty. -/
def pooled (X : Fin 16 → Fin 4096 → Fin 128 → EReal) (I : Fin 16 → Fin 4096 → BitVec 32) (b : Fin 16) (k : ℕ) (d : Fin 128) : WithTop ℝ :=
  ∑ s, if rank I b s = k ∧ 0 < cntN I b s then segMean X I b s d else 0

theorem pooled_eq (X : Fin 16 → Fin 4096 → Fin 128 → EReal) (I : Fin 16 → Fin 4096 → BitVec 32) (b s : Fin 16) (k : ℕ) (d : Fin 128)
    (h : rank I b s = k) : pooled X I b k d = if 0 < cntN I b s then segMean X I b s d else 0 := by
  unfold pooled
  rw [Finset.sum_eq_single s]
  · simp only [h, true_and]
  · intro j _ hj
    rw [if_neg fun hh => hj (rank_inj (hh.1.trans h.symm))]
  · intro h; exact absurd (Finset.mem_univ _) h

/-- The projected row, before normalization. -/
def proj (X : Fin 16 → Fin 4096 → Fin 128 → EReal) (I : Fin 16 → Fin 4096 → BitVec 32) (W : Fin 128 → Fin 128 → EReal) (v : Fin 128 → EReal)
    (b : Fin 16) (k : ℕ) (e : Fin 128) : WithTop ℝ :=
  (∑ d, pooled X I b k d * cls (W e d)) + cls (v e)

/-- The width of a row, as both programs write it. -/
theorem ofBits_width : Ideal.ofBits .f32 0x43000000#32 = ((128 : ℝ) : EReal) := by
  simp [Ideal.ofBits, Ideal.ieee, -EReal.coe_mul]; norm_num

/-- The constant under the root. -/
def eps : ℝ := (0x27C5AC + 2 ^ 23 : ℝ) * 2 ^ (-40 : ℤ)

theorem eps_pos : 0 < eps := by unfold eps; positivity

theorem ofBits_eps : Ideal.ofBits .f32 0x3727C5AC#32 = ((eps : ℝ) : EReal) := by
  unfold eps
  simp [Ideal.ofBits, Ideal.ieee, -EReal.coe_mul]; norm_num

end Cert.SegPool

end
-- ==== Proof.Counts.lean ====
/- The kernel's segment sums and counts, read at an index (hand-written, untrusted). -/
module

public import proofs.«01_k».proof.Proof.Regions
public import proofs.«01_k».proof.Proof.Spec
public import Idealize.ShloMosaic.Lib.Pointwise
public import Idealize.ShloMosaic.Lib.IndicatorCount

@[expose] public section

set_option maxRecDepth 16384

noncomputable section

open Idealize.ShloMosaic Idealize.ShloMosaic.TcCoe Idealize.SL.Sem

namespace Cert.KernelIdeal.Counts

open Cert.KernelIdeal Cert.KernelIdeal.Gen Cert.KernelIdeal.Regions Cert.SegPool

/-- The batches, items and features of the features' array. -/
def fX (X : Vec Ideal S16x4096x128 .f32) : Fin 16 → Fin 4096 → Fin 128 → EReal := fun b n d => X (ix3 b n d)

/-- The batches and items of the segment ids' array. -/
def fI (I : Vec Ideal S16x4096 .i32) : Fin 16 → Fin 4096 → BitVec 32 := fun b n => I (ix2 b n)

theorem cmpi_eq_one {w : ℕ} (a b : BitVec w) : IntOp.cmpi .eq a b = 1#1 ↔ a = b := by
  show BitVec.ofBool (a == b) = 1#1 ↔ a = b
  by_cases h : a = b
  · simp [h]
  · simp [h, beq_eq_false_iff_ne.2 h]

/-- An indicator bit as a number. -/
theorem sitofp_bit (p : BitVec 1) : (FloatOps.sitofp FTy.f32 (BitVec.setWidth 32 p) : Ideal .f32) = if p = 1#1 then (1 : EReal) else 0 := by
  have h : p = 0#1 ∨ p = 1#1 := by
    have := p.isLt
    rcases Nat.lt_or_ge p.toNat 1 with h | h
    · left; apply BitVec.eq_of_toNat_eq; simp; omega
    · right; apply BitVec.eq_of_toNat_eq; simp; omega
  rcases h with rfl | rfl
  · show (((BitVec.setWidth 32 0#1).toInt : ℝ) : EReal) = _
    simp
  · show (((BitVec.setWidth 32 1#1).toInt : ℝ) : EReal) = _
    have : (BitVec.setWidth 32 1#1).toInt = 1 := by decide
    rw [this]; simp

/-- The indicator fold that counts a segment. -/
theorem count_fold (f : Fin 4096 → BitVec 32) (s : BitVec 32) :
    Finset.fold IntOp.addi (0#32) (fun n => BitVec.setWidth 32 (IntOp.cmpi CmpIPredicate.eq (f n) s)) Finset.univ
      = BitVec.ofNat 32 (Finset.univ.filter fun n => f n = s).card := by
  rw [IndicatorCount.fold_addi_setWidth_eq_card]
  simp only [cmpi_eq_one]

theorem sum_split (x : Fin 4096 → EReal) (p : Fin 4096 → Prop) [DecidablePred p] :
    cls ((∑ n, (if p n then (1 : EReal) else 0) * x n) + ∑ n, (if p n then (1 : EReal) else 0) * (x n - x n))
      = ∑ n, if p n then cls (x n) else 0 := by
  rw [cls_dot_split]
  refine Finset.sum_congr rfl fun n _ => ?_
  split_ifs <;> simp

theorem pay0 (X : Vec Ideal S16x4096x128 .f32) (I : Vec Ideal S16x4096 .i32) (b s : Fin 16) (d : Fin 128) :
    cls (k0_pay1 (feat X b) (ids I b) (ix2 s d)) = segSum (fX X) (fI I) b s d := by
  pointwise [k0_pay1]
  simp only [sitofp_bit, cmpi_eq_one]
  exact sum_split (fun n => fX X b n d) fun n => fI I b n = BitVec.ofNat 32 s

theorem pay1 (X : Vec Ideal S16x4096x128 .f32) (I : Vec Ideal S16x4096 .i32) (b s : Fin 16) (d : Fin 128) :
    cls (k1_pay2 (feat X b) (ids I b) (ix3 0 s d)) = segSum (fX X) (fI I) b s d := by
  pointwise [k1_pay2, k1_pay1]
  simp only [sitofp_bit, cmpi_eq_one]
  exact sum_split (fun n => fX X b n d) fun n => fI I b n = BitVec.ofNat 32 s

theorem pay1_cnt (I : Vec Ideal S16x4096 .i32) (b s : Fin 16) :
    k1_pay3 (F := Ideal) (ids I b) (ix3 0 0 s) = cnt (fI I) b s := by
  pointwise [k1_pay3, k1_pay1]
  exact count_fold (fun n => fI I b n) (BitVec.ofNat 32 s)

/-- The two regions' sums side by side, at a segment. -/
theorem sums (X : Vec Ideal S16x4096x128 .f32) (I : Vec Ideal S16x4096 .i32) (b s : Fin 16) (d : Fin 128) :
    cls (k2_pay2 (F := Ideal) (sums0 X I) (sums1 X I) (ix3 b s d)) = segSum (fX X) (fI I) b s d := by
  pointwise [k2_pay2]
  split_ifs with h
  · rw [sums0_at X I _ b s d (by show b.val * 16 + s.val = _; omega) rfl, pay0]
  · rw [sums1_at X I _ b s d (by show 6 + (b.val - 6) = _; omega) rfl rfl, pay1]
  · exact absurd rfl ‹_›

/-- The last region's count column of segment 15. -/
def col15 (v6 : Vec Ideal S6x4096 .i32) : IVec S6x1 32 :=
  shapeCast S6x1 (multiReductionI .add [1] S6 (extui 32 (cmpi .eq v6 (broadcast S6x4096 15#32)) natLt_1_32) 0#32 reduces_S6x4096_S6 rfl)
    shapeCasts_S6_S6x1

/-- The last region's count columns. -/
def cols (v6 : Vec Ideal S6x4096 .i32) : Fin 16 → IVec S6x1 32 :=
  ![k2_pay3 v6, k2_pay4 v6, k2_pay5 v6, k2_pay6 v6, k2_pay7 v6, k2_pay8 v6, k2_pay10 (k2_pay9 v6), k2_pay11 v6, k2_pay12 v6,
    k2_pay13 v6, k2_pay14 v6, k2_pay15 v6, k2_pay16 v6, k2_pay17 v6, k2_pay18 v6, col15 v6]

theorem col_0 (v6 : Vec Ideal S6x4096 .i32) (b : Fin 6) : (k2_pay3 v6 : IVec S6x1 32) (ix2 b 0)
    = BitVec.ofNat 32 (Finset.univ.filter fun n : Fin 4096 => v6 (ix2 b n) = 0#32).card := by
  pointwise [k2_pay3]
  exact count_fold (fun n => v6 (ix2 b n)) 0#32

theorem col_1 (v6 : Vec Ideal S6x4096 .i32) (b : Fin 6) : (k2_pay4 v6 : IVec S6x1 32) (ix2 b 0)
    = BitVec.ofNat 32 (Finset.univ.filter fun n : Fin 4096 => v6 (ix2 b n) = 1#32).card := by
  pointwise [k2_pay4]
  exact count_fold (fun n => v6 (ix2 b n)) 1#32

theorem col_2 (v6 : Vec Ideal S6x4096 .i32) (b : Fin 6) : (k2_pay5 v6 : IVec S6x1 32) (ix2 b 0)
    = BitVec.ofNat 32 (Finset.univ.filter fun n : Fin 4096 => v6 (ix2 b n) = 2#32).card := by
  pointwise [k2_pay5]
  exact count_fold (fun n => v6 (ix2 b n)) 2#32

theorem col_3 (v6 : Vec Ideal S6x4096 .i32) (b : Fin 6) : (k2_pay6 v6 : IVec S6x1 32) (ix2 b 0)
    = BitVec.ofNat 32 (Finset.univ.filter fun n : Fin 4096 => v6 (ix2 b n) = 3#32).card := by
  pointwise [k2_pay6]
  exact count_fold (fun n => v6 (ix2 b n)) 3#32

theorem col_4 (v6 : Vec Ideal S6x4096 .i32) (b : Fin 6) : (k2_pay7 v6 : IVec S6x1 32) (ix2 b 0)
    = BitVec.ofNat 32 (Finset.univ.filter fun n : Fin 4096 => v6 (ix2 b n) = 4#32).card := by
  pointwise [k2_pay7]
  exact count_fold (fun n => v6 (ix2 b n)) 4#32

theorem col_5 (v6 : Vec Ideal S6x4096 .i32) (b : Fin 6) : (k2_pay8 v6 : IVec S6x1 32) (ix2 b 0)
    = BitVec.ofNat 32 (Finset.univ.filter fun n : Fin 4096 => v6 (ix2 b n) = 5#32).card := by
  pointwise [k2_pay8]
  exact count_fold (fun n => v6 (ix2 b n)) 5#32

theorem col_6 (v6 : Vec Ideal S6x4096 .i32) (b : Fin 6) : (k2_pay10 (k2_pay9 v6) : IVec S6x1 32) (ix2 b 0)
    = BitVec.ofNat 32 (Finset.univ.filter fun n : Fin 4096 => v6 (ix2 b n) = 6#32).card := by
  pointwise [k2_pay10, k2_pay9]
  exact count_fold (fun n => v6 (ix2 b n)) 6#32

theorem col_7 (v6 : Vec Ideal S6x4096 .i32) (b : Fin 6) : (k2_pay11 v6 : IVec S6x1 32) (ix2 b 0)
    = BitVec.ofNat 32 (Finset.univ.filter fun n : Fin 4096 => v6 (ix2 b n) = 7#32).card := by
  pointwise [k2_pay11]
  exact count_fold (fun n => v6 (ix2 b n)) 7#32

theorem col_8 (v6 : Vec Ideal S6x4096 .i32) (b : Fin 6) : (k2_pay12 v6 : IVec S6x1 32) (ix2 b 0)
    = BitVec.ofNat 32 (Finset.univ.filter fun n : Fin 4096 => v6 (ix2 b n) = 8#32).card := by
  pointwise [k2_pay12]
  exact count_fold (fun n => v6 (ix2 b n)) 8#32

theorem col_9 (v6 : Vec Ideal S6x4096 .i32) (b : Fin 6) : (k2_pay13 v6 : IVec S6x1 32) (ix2 b 0)
    = BitVec.ofNat 32 (Finset.univ.filter fun n : Fin 4096 => v6 (ix2 b n) = 9#32).card := by
  pointwise [k2_pay13]
  exact count_fold (fun n => v6 (ix2 b n)) 9#32

theorem col_10 (v6 : Vec Ideal S6x4096 .i32) (b : Fin 6) : (k2_pay14 v6 : IVec S6x1 32) (ix2 b 0)
    = BitVec.ofNat 32 (Finset.univ.filter fun n : Fin 4096 => v6 (ix2 b n) = 10#32).card := by
  pointwise [k2_pay14]
  exact count_fold (fun n => v6 (ix2 b n)) 10#32

theorem col_11 (v6 : Vec Ideal S6x4096 .i32) (b : Fin 6) : (k2_pay15 v6 : IVec S6x1 32) (ix2 b 0)
    = BitVec.ofNat 32 (Finset.univ.filter fun n : Fin 4096 => v6 (ix2 b n) = 11#32).card := by
  pointwise [k2_pay15]
  exact count_fold (fun n => v6 (ix2 b n)) 11#32

theorem col_12 (v6 : Vec Ideal S6x4096 .i32) (b : Fin 6) : (k2_pay16 v6 : IVec S6x1 32) (ix2 b 0)
    = BitVec.ofNat 32 (Finset.univ.filter fun n : Fin 4096 => v6 (ix2 b n) = 12#32).card := by
  pointwise [k2_pay16]
  exact count_fold (fun n => v6 (ix2 b n)) 12#32

theorem col_13 (v6 : Vec Ideal S6x4096 .i32) (b : Fin 6) : (k2_pay17 v6 : IVec S6x1 32) (ix2 b 0)
    = BitVec.ofNat 32 (Finset.univ.filter fun n : Fin 4096 => v6 (ix2 b n) = 13#32).card := by
  pointwise [k2_pay17]
  exact count_fold (fun n => v6 (ix2 b n)) 13#32

theorem col_14 (v6 : Vec Ideal S6x4096 .i32) (b : Fin 6) : (k2_pay18 v6 : IVec S6x1 32) (ix2 b 0)
    = BitVec.ofNat 32 (Finset.univ.filter fun n : Fin 4096 => v6 (ix2 b n) = 14#32).card := by
  pointwise [k2_pay18]
  exact count_fold (fun n => v6 (ix2 b n)) 14#32

theorem col_15 (v6 : Vec Ideal S6x4096 .i32) (b : Fin 6) : (col15 v6 : IVec S6x1 32) (ix2 b 0)
    = BitVec.ofNat 32 (Finset.univ.filter fun n : Fin 4096 => v6 (ix2 b n) = 15#32).card := by
  pointwise [col15]
  exact count_fold (fun n => v6 (ix2 b n)) 15#32

/-- Sixteen facts, one for each entry of a list of sixteen. -/
theorem vec16 {α : Type} (P : Fin 16 → α → Prop) (p0 p1 p2 p3 p4 p5 p6 p7 p8 p9 p10 p11 p12 p13 p14 p15 : α) (h0 : P 0 p0) (h1 : P 1 p1) (h2 : P 2 p2) (h3 : P 3 p3) (h4 : P 4 p4) (h5 : P 5 p5) (h6 : P 6 p6) (h7 : P 7 p7) (h8 : P 8 p8) (h9 : P 9 p9) (h10 : P 10 p10) (h11 : P 11 p11) (h12 : P 12 p12) (h13 : P 13 p13) (h14 : P 14 p14) (h15 : P 15 p15) :
    ∀ s, P s (![p0, p1, p2, p3, p4, p5, p6, p7, p8, p9, p10, p11, p12, p13, p14, p15] s) := by
  intro s
  fin_cases s
  · exact h0
  · exact h1
  · exact h2
  · exact h3
  · exact h4
  · exact h5
  · exact h6
  · exact h7
  · exact h8
  · exact h9
  · exact h10
  · exact h11
  · exact h12
  · exact h13
  · exact h14
  · exact h15

theorem cols_apply (v6 : Vec Ideal S6x4096 .i32) (s : Fin 16) (b : Fin 6) :
    cols v6 s (ix2 b 0) = BitVec.ofNat 32 (Finset.univ.filter fun n : Fin 4096 => v6 (ix2 b n) = BitVec.ofNat 32 s).card :=
  vec16 (fun s (p : IVec S6x1 32) => p (ix2 b 0)
      = BitVec.ofNat 32 (Finset.univ.filter fun n : Fin 4096 => v6 (ix2 b n) = BitVec.ofNat 32 s).card)
    _ _ _ _ _ _ _ _ _ _ _ _ _ _ _ _ (col_0 v6 b) (col_1 v6 b) (col_2 v6 b) (col_3 v6 b) (col_4 v6 b) (col_5 v6 b) (col_6 v6 b) (col_7 v6 b) (col_8 v6 b) (col_9 v6 b) (col_10 v6 b) (col_11 v6 b) (col_12 v6 b) (col_13 v6 b) (col_14 v6 b) (col_15 v6 b) s

/-- Sixteen columns side by side, at an index. -/
theorem concat_cols (p0 p1 p2 p3 p4 p5 p6 p7 p8 p9 p10 p11 p12 p13 p14 p15 : IVec S6x1 32) (b : Fin 6) (s : Fin 16) :
    concatenate S6x16 1 [⟨S6x1, p0⟩, ⟨S6x1, p1⟩, ⟨S6x1, p2⟩, ⟨S6x1, p3⟩, ⟨S6x1, p4⟩, ⟨S6x1, p5⟩, ⟨S6x1, p6⟩, ⟨S6x1, p7⟩, ⟨S6x1, p8⟩, ⟨S6x1, p9⟩,
        ⟨S6x1, p10⟩, ⟨S6x1, p11⟩, ⟨S6x1, p12⟩, ⟨S6x1, p13⟩, ⟨S6x1, p14⟩, ⟨S6x1, p15⟩]
      concatenates_S6x1_S6x1_S6x1_S6x1_S6x1_S6x1_S6x1_S6x1_S6x1_S6x1_S6x1_S6x1_S6x1_S6x1_S6x1_S6x1_S6x16_d1 (ix2 b s)
    = (![p0, p1, p2, p3, p4, p5, p6, p7, p8, p9, p10, p11, p12, p13, p14, p15] s) (ix2 b 0) :=
  concatenate_ofFn_unit_apply (t := S6x16) (s₁ := S6x1) 1 ![p0, p1, p2, p3, p4, p5, p6, p7, p8, p9, p10, p11, p12, p13, p14, p15]
    concatenates_S6x1_S6x1_S6x1_S6x1_S6x1_S6x1_S6x1_S6x1_S6x1_S6x1_S6x1_S6x1_S6x1_S6x1_S6x1_S6x1_S6x16_d1 rfl rfl (ix2 b s) s rfl (ix2 b 0)
    fun a ha => by
      match a, ha with
      | ⟨0, _⟩, _ => rfl
      | ⟨1, _⟩, ha => exact absurd rfl ha

/-- The columns side by side above the second region's counts. -/
def stack (v : IVec S6x16 32) (v88 : Vec Ideal S10x1x16 .i32) : IVec S16x16 32 :=
  concatenate S16x16 0 [⟨S6x16, v⟩, ⟨S10x16, shapeCast S10x16 (shapeCast S10x1x16 v88 shapeCasts_S10x1x16_S10x1x16) shapeCasts_S10x1x16_S10x16⟩]
    concatenates_S6x16_S10x16_S16x16_d0

/-- The count matrix of the last region. -/
def cntM (v6 : Vec Ideal S6x4096 .i32) (v88 : Vec Ideal S10x1x16 .i32) : IVec S16x16 32 :=
  k2_pay19 v6 (k2_pay3 v6) (k2_pay4 v6) (k2_pay5 v6) (k2_pay6 v6) (k2_pay7 v6) (k2_pay8 v6) (k2_pay10 (k2_pay9 v6)) (k2_pay11 v6)
    (k2_pay12 v6) (k2_pay13 v6) (k2_pay14 v6) (k2_pay15 v6) (k2_pay16 v6) (k2_pay17 v6) (k2_pay18 v6) v88

theorem cntM_apply (v6 : Vec Ideal S6x4096 .i32) (I : Vec Ideal S16x4096 .i32)
    (h6 : ∀ (b : Fin 6) (n : Fin 4096), v6 (ix2 b n) = I (ix2 ⟨b, by omega⟩ n)) (b s : Fin 16) :
    cntM v6 (cnts1 I) (ix2 b s) = cnt (fI I) b s := by
  have e : cntM v6 (cnts1 I) = stack _ (cnts1 I) := rfl
  rw [e]
  have hv := fun b' => concat_cols (k2_pay3 v6) (k2_pay4 v6) (k2_pay5 v6) (k2_pay6 v6) (k2_pay7 v6) (k2_pay8 v6) (k2_pay10 (k2_pay9 v6))
    (k2_pay11 v6) (k2_pay12 v6) (k2_pay13 v6) (k2_pay14 v6) (k2_pay15 v6) (k2_pay16 v6) (k2_pay17 v6) (k2_pay18 v6) (col15 v6) b' s
  unfold col15 at hv
  revert hv
  generalize concatenate S6x16 1 _ _ = v
  intro hv
  pointwise [stack]
  split_ifs with h
  · rw [hv ⟨b, h⟩]
    refine (cols_apply v6 s ⟨b, h⟩).trans ?_
    simp only [h6]
    rfl
  · rw [cnts1_at I _ b s (by show 6 + (b.val - 6) = _; omega) rfl, pay1_cnt]
  · exact absurd rfl ‹_›

end Cert.KernelIdeal.Counts

end
-- ==== Proof.Select.lean ====
/- The kernel's ranking of the segments and its segment means (hand-written, untrusted). -/
module

public import proofs.«01_k».proof.Proof.Counts

@[expose] public section

set_option maxRecDepth 16384

noncomputable section

open Idealize.ShloMosaic Idealize.ShloMosaic.TcCoe Idealize.SL.Sem

namespace Cert.KernelIdeal.Select

open Cert.KernelIdeal Cert.KernelIdeal.Gen Cert.KernelIdeal.Counts Cert.SegPool

theorem bit_cases (p : BitVec 1) : p = 0#1 ∨ p = 1#1 := by
  have := p.isLt
  rcases Nat.lt_or_ge p.toNat 1 with h | h
  · left; apply BitVec.eq_of_toNat_eq; simp; omega
  · right; apply BitVec.eq_of_toNat_eq; simp; omega

theorem andi_eq_one (p q : BitVec 1) : IntOp.andi p q = 1#1 ↔ p = 1#1 ∧ q = 1#1 := by
  rcases bit_cases p with rfl | rfl <;> rcases bit_cases q with rfl | rfl <;> decide

theorem sgt_eq_one (a b : BitVec 32) : IntOp.cmpi .sgt a b = 1#1 ↔ b.toInt < a.toInt := by
  show BitVec.ofBool (b.slt a) = 1#1 ↔ _
  rw [BitVec.slt_eq_decide]
  by_cases h : b.toInt < a.toInt <;> simp [h]

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The divisor of a mean. -/
theorem den (I : Fin 16 → Fin 4096 → BitVec 32) (b s : Fin 16) :
    (FloatOps.sitofp FTy.f32 (IntOp.maxsi (cnt I b s) 1#32) : Ideal .f32) = (((max (cntN I b s) 1 : ℕ) : ℝ) : EReal) := by
  show (((IntOp.maxsi (cnt I b s) 1#32).toInt : ℝ) : EReal) = _
  have h : (IntOp.maxsi (cnt I b s) 1#32).toInt = ((max (cntN I b s) 1 : ℕ) : ℤ) := by
    have h1 : (1#32 : BitVec 32).toInt = 1 := by decide
    show (if (1#32).slt (cnt I b s) then cnt I b s else 1#32).toInt = _
    rw [BitVec.slt_eq_decide, cnt_toInt, h1]
    split_ifs with h
    · simp only [decide_eq_true_eq] at h
      rw [cnt_toInt]; omega
    · simp only [decide_eq_true_eq] at h
      rw [h1]; omega
  rw [h]
  simp

/-- The key the kernel ranks by. -/
theorem key (I : Fin 16 → Fin 4096 → BitVec 32) (b s : Fin 16) :
    (IntOp.addi (IntOp.muli (cnt I b s) 16#32) (IntOp.subi 15#32 (BitVec.ofNat 32 s))).toInt = (cntN I b s * 16 + (15 - s.val) : ℕ) := by
  have hc := cntN_le I b s
  have hs := s.isLt
  have e : (IntOp.addi (IntOp.muli (cnt I b s) 16#32) (IntOp.subi 15#32 (BitVec.ofNat 32 s))).toNat = cntN I b s * 16 + (15 - s.val) := by
    show (cnt I b s * 16#32 + (15#32 - BitVec.ofNat 32 s)).toNat = _
    rw [BitVec.toNat_add, BitVec.toNat_mul, BitVec.toNat_sub, cnt_toNat, BitVec.toNat_ofNat, BitVec.toNat_ofNat, BitVec.toNat_ofNat]
    omega
  rw [BitVec.toInt_eq_toNat_of_lt (by rw [e]; omega), e]

theorem before_iff (I : Fin 16 → Fin 4096 → BitVec 32) (b i j : Fin 16) :
    IntOp.cmpi .sgt (IntOp.addi (IntOp.muli (cnt I b i) 16#32) (IntOp.subi 15#32 (BitVec.ofNat 32 i)))
      (IntOp.addi (IntOp.muli (cnt I b j) 16#32) (IntOp.subi 15#32 (BitVec.ofNat 32 j))) = 1#1 ↔ Before I b i j := by
  rw [sgt_eq_one, key, key]
  have := i.isLt
  have := j.isLt
  unfold Before
  rw [Fin.lt_def]
  omega

theorem rank_le (I : Fin 16 → Fin 4096 → BitVec 32) (b s : Fin 16) : rank I b s ≤ 16 :=
  (Finset.card_le_univ _).trans (by simp)

variable (v6 : Vec Ideal S6x4096 .i32) (v11 v16 v21 v26 v31 v36 v41 v46 v51 v56 v61 v66 v71 v76 v81 : IVec S6x1 32) (v88 : Vec Ideal S10x1x16 .i32)

/-- The mean of a segment. -/
theorem mean_apply (v5 : FVec Ideal S16x16x128 .f32) (X : Fin 16 → Fin 4096 → Fin 128 → EReal) (I : Fin 16 → Fin 4096 → BitVec 32)
    (h5 : ∀ b s d, cls (v5 (ix3 b s d)) = segSum X I b s d)
    (hc : ∀ b s, k2_pay19 (F := Ideal) v6 v11 v16 v21 v26 v31 v36 v41 v46 v51 v56 v61 v66 v71 v76 v81 v88 (ix2 b s) = cnt I b s) (b s : Fin 16) (d : Fin 128) :
    cls (k2_pay20 v5 v6 v11 v16 v21 v26 v31 v36 v41 v46 v51 v56 v61 v66 v71 v76 v81 v88 (ix3 b s d)) = segMean X I b s d := by
  pointwise [k2_pay20]
  rw [hc, den, Ideal.div_coe (by positivity), cls_mul, cls_coe, h5]
  rfl

/-- The selection of a segment for a place. -/
theorem sel_apply (I : Fin 16 → Fin 4096 → BitVec 32)
    (hc : ∀ b s, k2_pay19 (F := Ideal) v6 v11 v16 v21 v26 v31 v36 v41 v46 v51 v56 v61 v66 v71 v76 v81 v88 (ix2 b s) = cnt I b s) (b : Fin 16) (k : Fin 8) (s : Fin 16) :
    k2_pay21 (F := Ideal) v6 v11 v16 v21 v26 v31 v36 v41 v46 v51 v56 v61 v66 v71 v76 v81 v88 (ix3 b k s) = if rank I b s = k ∧ 0 < cntN I b s then (1 : EReal) else 0 := by
  pointwise [k2_pay21]
  simp only [hc]
  rw [sitofp_bit, IndicatorCount.fold_addi_setWidth_eq_card]
  simp only [before_iff, andi_eq_one, cmpi_eq_one]
  simp only [sgt_eq_one, cnt_toInt]
  have hk := k.isLt
  have hr := rank_le I b s
  have e : (BitVec.ofNat 32 (Finset.univ.filter fun x => Before I b x s).card = BitVec.ofNat 32 k) ↔ rank I b s = k :=
    ofNat_inj (by show rank I b s < _; omega) (by omega)
  have z : (0#32 : BitVec 32).toInt = 0 := by decide
  simp only [e, z, Nat.cast_pos]

end Cert.KernelIdeal.Select

end
-- ==== Proof.Pool.lean ====
/- The kernel's pooling and projection, read at an index (hand-written, untrusted). -/
module

public import proofs.«01_k».proof.Proof.Select

@[expose] public section

set_option maxRecDepth 16384

noncomputable section

open Idealize.ShloMosaic Idealize.ShloMosaic.TcCoe Idealize.SL.Sem

namespace Cert.KernelIdeal.Pool

open Cert.KernelIdeal Cert.KernelIdeal.Gen Cert.KernelIdeal.Counts Cert.SegPool

/-- The pooled feature of a batch at a place, as the kernel adds it up. -/
def batch (m : FVec Ideal S16x16x128 .f32) (sel : FVec Ideal S16x8x16 .bf16) (b : Fin 16) (k : Fin 8) (d : Fin 128) : EReal :=
  (∑ s : Fin 16, sel (ix3 b k s) * m (ix3 b s d)) + ∑ s : Fin 16, sel (ix3 b k s) * (m (ix3 b s d) - m (ix3 b s d))

theorem piece_0 (m : FVec Ideal S16x16x128 .f32) (sel : FVec Ideal S16x8x16 .bf16) (k : Fin 8) (d : Fin 128) :
    (k2_pay22 m sel : FVec Ideal S8x128 .f32) (ix2 k d) = batch m sel 0 k d := by
  pointwise [k2_pay22]
  rfl

theorem piece_1 (m : FVec Ideal S16x16x128 .f32) (sel : FVec Ideal S16x8x16 .bf16) (k : Fin 8) (d : Fin 128) :
    (k2_pay23 m sel : FVec Ideal S8x128 .f32) (ix2 k d) = batch m sel 1 k d := by
  pointwise [k2_pay23]
  rfl

theorem piece_2 (m : FVec Ideal S16x16x128 .f32) (sel : FVec Ideal S16x8x16 .bf16) (k : Fin 8) (d : Fin 128) :
    (k2_pay24 m sel : FVec Ideal S8x128 .f32) (ix2 k d) = batch m sel 2 k d := by
  pointwise [k2_pay24]
  rfl

theorem piece_3 (m : FVec Ideal S16x16x128 .f32) (sel : FVec Ideal S16x8x16 .bf16) (k : Fin 8) (d : Fin 128) :
    (k2_pay25 m sel : FVec Ideal S8x128 .f32) (ix2 k d) = batch m sel 3 k d := by
  pointwise [k2_pay25]
  rfl

theorem piece_4 (m : FVec Ideal S16x16x128 .f32) (sel : FVec Ideal S16x8x16 .bf16) (k : Fin 8) (d : Fin 128) :
    (k2_pay30 (k2_pay26 sel) (k2_pay28 m) (k2_pay29 m) : FVec Ideal S8x128 .f32) (ix2 k d) = batch m sel 4 k d := by
  pointwise [k2_pay30, k2_pay26, k2_pay28, k2_pay29, k2_pay27]
  rfl

theorem piece_5 (m : FVec Ideal S16x16x128 .f32) (sel : FVec Ideal S16x8x16 .bf16) (k : Fin 8) (d : Fin 128) :
    (k2_pay31 m sel : FVec Ideal S8x128 .f32) (ix2 k d) = batch m sel 5 k d := by
  pointwise [k2_pay31]
  rfl

theorem piece_6 (m : FVec Ideal S16x16x128 .f32) (sel : FVec Ideal S16x8x16 .bf16) (k : Fin 8) (d : Fin 128) :
    (k2_pay32 m sel : FVec Ideal S8x128 .f32) (ix2 k d) = batch m sel 6 k d := by
  pointwise [k2_pay32]
  rfl

theorem piece_7 (m : FVec Ideal S16x16x128 .f32) (sel : FVec Ideal S16x8x16 .bf16) (k : Fin 8) (d : Fin 128) :
    (k2_pay33 m sel : FVec Ideal S8x128 .f32) (ix2 k d) = batch m sel 7 k d := by
  pointwise [k2_pay33]
  rfl

theorem piece_8 (m : FVec Ideal S16x16x128 .f32) (sel : FVec Ideal S16x8x16 .bf16) (k : Fin 8) (d : Fin 128) :
    (k2_pay34 m sel : FVec Ideal S8x128 .f32) (ix2 k d) = batch m sel 8 k d := by
  pointwise [k2_pay34]
  rfl

theorem piece_9 (m : FVec Ideal S16x16x128 .f32) (sel : FVec Ideal S16x8x16 .bf16) (k : Fin 8) (d : Fin 128) :
    (k2_pay37 (k2_pay35 sel) (k2_pay36 m) : FVec Ideal S8x128 .f32) (ix2 k d) = batch m sel 9 k d := by
  pointwise [k2_pay37, k2_pay35, k2_pay36]
  rfl

theorem piece_10 (m : FVec Ideal S16x16x128 .f32) (sel : FVec Ideal S16x8x16 .bf16) (k : Fin 8) (d : Fin 128) :
    (k2_pay38 m sel : FVec Ideal S8x128 .f32) (ix2 k d) = batch m sel 10 k d := by
  pointwise [k2_pay38]
  rfl

theorem piece_11 (m : FVec Ideal S16x16x128 .f32) (sel : FVec Ideal S16x8x16 .bf16) (k : Fin 8) (d : Fin 128) :
    (k2_pay39 m sel : FVec Ideal S8x128 .f32) (ix2 k d) = batch m sel 11 k d := by
  pointwise [k2_pay39]
  rfl

theorem piece_12 (m : FVec Ideal S16x16x128 .f32) (sel : FVec Ideal S16x8x16 .bf16) (k : Fin 8) (d : Fin 128) :
    (k2_pay40 m sel : FVec Ideal S8x128 .f32) (ix2 k d) = batch m sel 12 k d := by
  pointwise [k2_pay40]
  rfl

/-- The projection of pooled rows, as the kernel adds it up. -/
def projected (w : Vec Ideal S128x128 .f32) (v : Vec Ideal S128 .f32) (P : FVec Ideal S128x128 .f32) : FVec Ideal S128x128 .f32 :=
  addf (addf (addf
      (matmul dot_S128x128_S128x128_S128x128_1_1_0_0_n_n none (truncf .bf16 P bitsLt_bf16_f32) (truncf .bf16 w bitsLt_bf16_f32)
        (constant S128x128 .f32 0x00000000#32))
      (matmul dot_S128x128_S128x128_S128x128_1_1_0_0_n_n none (truncf .bf16 P bitsLt_bf16_f32)
        (truncf .bf16 (subf w (extf .f32 (truncf .bf16 w bitsLt_bf16_f32) bitsLt_bf16_f32)) bitsLt_bf16_f32)
        (constant S128x128 .f32 0x00000000#32)))
      (matmul dot_S128x128_S128x128_S128x128_1_1_0_0_n_n none
        (truncf .bf16 (subf P (extf .f32 (truncf .bf16 P bitsLt_bf16_f32) bitsLt_bf16_f32)) bitsLt_bf16_f32)
        (truncf .bf16 w bitsLt_bf16_f32) (constant S128x128 .f32 0x00000000#32)))
    (broadcastTo S128x128 (shapeCast S1x128 v shapeCasts_S128_S1x128) broadcasts_S1x128_S128x128)

/-- Rows less their means. -/
def center (Y : FVec Ideal S128x128 .f32) : FVec Ideal S128x128 .f32 :=
  subf Y (broadcastTo S128x128 (divf
    (shapeCast S128x1 (multiReduction .add [1] S128 Y 0x00000000#32 reduces_S128x128_S128 (.inl rfl) rfl) shapeCasts_S128_S128x1)
    (broadcast S128x1 (Scalar.ofBits .f32 0x43000000#32))) broadcasts_S128x1_S128x128)

/-- The last three batches' pieces come with the projection's payload. -/
theorem pay46_split (w : Vec Ideal S128x128 .f32) (v : Vec Ideal S128 .f32) (m : FVec Ideal S16x16x128 .f32) (sel : FVec Ideal S16x8x16 .bf16)
    (p0 p1 p2 p3 p4 p5 p6 p7 p8 p9 p10 p11 p12 : FVec Ideal S8x128 .f32) :
    ∃ q13 q14 q15 : FVec Ideal S8x128 .f32,
      (∀ k d, q13 (ix2 k d) = batch m sel 13 k d) ∧ (∀ k d, q14 (ix2 k d) = batch m sel 14 k d) ∧ (∀ k d, q15 (ix2 k d) = batch m sel 15 k d) ∧
      k2_pay46 w v m sel p0 p1 p2 p3 p4 p5 p6 p7 p8 p9 p10 p11 p12 (k2_pay41 sel) (k2_pay44 m) (k2_pay45 m sel) (constant S8x128 .f32 0x00000000#32)
        = center (projected w v (concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, q13⟩, ⟨S8x128, q14⟩, ⟨S8x128, q15⟩]
            concatenates_S8x128_S8x128_S8x128_S8x128_S8x128_S8x128_S8x128_S8x128_S8x128_S8x128_S8x128_S8x128_S8x128_S8x128_S8x128_S8x128_S128x128_d0)) := by
  refine ⟨_, _, _, ?_, ?_, ?_, rfl⟩
  · intro k d
    pointwise [k2_pay41, k2_pay44, k2_pay45, k2_pay43, k2_pay42]
    rfl
  · intro k d
    pointwise []
    rfl
  · intro k d
    pointwise []
    rfl

/-- Sixteen pieces of eight rows, stacked, at an index. -/
theorem concat_rows (p0 p1 p2 p3 p4 p5 p6 p7 p8 p9 p10 p11 p12 q13 q14 q15 : FVec Ideal S8x128 .f32) (r : Fin 128) (b : Fin 16) (k : Fin 8) (hr : r.val = 8 * b + k) (d : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, q13⟩, ⟨S8x128, q14⟩, ⟨S8x128, q15⟩]
        concatenates_S8x128_S8x128_S8x128_S8x128_S8x128_S8x128_S8x128_S8x128_S8x128_S8x128_S8x128_S8x128_S8x128_S8x128_S8x128_S8x128_S128x128_d0 (ix2 r d)
      = (![p0, p1, p2, p3, p4, p5, p6, p7, p8, p9, p10, p11, p12, q13, q14, q15] b) (ix2 k d) :=
  concatenate_ofFn_apply (t := S128x128) (s₁ := S8x128) 0 ![p0, p1, p2, p3, p4, p5, p6, p7, p8, p9, p10, p11, p12, q13, q14, q15]
    concatenates_S8x128_S8x128_S8x128_S8x128_S8x128_S8x128_S8x128_S8x128_S8x128_S8x128_S8x128_S8x128_S8x128_S8x128_S8x128_S8x128_S128x128_d0 rfl 8 rfl
    (ix2 r d) b (by show r.val / 8 = _; omega) (ix2 k d) (by show k.val = r.val % 8; omega)
    fun a ha => by
      match a, ha with
      | ⟨0, _⟩, ha => exact absurd rfl ha
      | ⟨1, _⟩, _ => rfl

end Cert.KernelIdeal.Pool

end
-- ==== Proof.Final.lean ====
/- The last region's result, read at an index (hand-written, untrusted). -/
module

public import proofs.«01_k».proof.Proof.Pool

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Regions Cert.KernelIdeal.Counts Cert.KernelIdeal.Pool Cert.SegPool

/-- The rows of the projection's weights. -/
def fW (W : Vec Ideal S128x128 .f32) : Fin 128 → Fin 128 → EReal := fun e d => W (ix2 e d)

/-- A vector's entries. -/
def fv (v : Vec Ideal S128 .f32) : Fin 128 → EReal := fun e => v (ix1 e)

theorem batch_cls (X : Fin 16 → Fin 4096 → Fin 128 → EReal) (I : Fin 16 → Fin 4096 → BitVec 32)
    (m : FVec Ideal S16x16x128 .f32) (sel : FVec Ideal S16x8x16 .bf16)
    (hm : ∀ b s d, cls (m (ix3 b s d)) = segMean X I b s d)
    (hs : ∀ (b : Fin 16) (k : Fin 8) (s : Fin 16), sel (ix3 b k s) = if rank I b s = k ∧ 0 < cntN I b s then (1 : EReal) else 0)
    (b : Fin 16) (k : Fin 8) (d : Fin 128) : cls (batch m sel b k d) = pooled X I b k d := by
  unfold batch
  rw [cls_dot_split (fun s => sel (ix3 b k s)) fun s => m (ix3 b s d)]
  unfold pooled
  refine Finset.sum_congr rfl fun s _ => ?_
  rw [hs, hm]
  split_ifs <;> simp

theorem projected_apply (w : Vec Ideal S128x128 .f32) (v : Vec Ideal S128 .f32) (P : FVec Ideal S128x128 .f32) (r e : Fin 128) :
    cls (projected w v P (ix2 r e)) = (∑ d, cls (P (ix2 r d)) * cls (fW w e d)) + cls (fv v e) := by
  pointwise [projected]
  rw [cls_add]
  refine congrArg₂ (· + ·) ?_ rfl
  exact cls_dot_split3 (fun d => P (ix2 r d)) (fun d => w (ix2 e d))

theorem center_apply (Y : FVec Ideal S128x128 .f32) (r e : Fin 128) :
    center Y (ix2 r e) = Y (ix2 r e) - mean ((128 : ℝ) : EReal) (fun j => Y (ix2 r j)) := by
  pointwise [center]
  unfold mean
  rw [← ofBits_width]

theorem last_apply (lnw lnb : Vec Ideal S128 .f32) (C : FVec Ideal S128x128 .f32) (Q : FVec Ideal S128x1 .f32) (b : Fin 16) (k : Fin 8) (e r : Fin 128)
    (hr : r.val = 8 * b + k) :
    k2_pay1 lnw lnb C Q (ix3 b k e)
      = C (ix2 r e) * Ideal.rsqrt (Ideal.div (Q (ix2 r 0)) ((128 : ℝ) : EReal) + ((eps : ℝ) : EReal)) * fv lnw e + fv lnb e := by
  pointwise [k2_pay1]
  have e1 : ∀ h, (⟨b.val * 8 + k.val, h⟩ : Fin 128) = r := fun h => Fin.ext (by show b.val * 8 + k.val = r.val; omega)
  simp only [e1]
  rw [← ofBits_width, ← ofBits_eps]
  rfl

theorem sq_apply (C : FVec Ideal S128x128 .f32) (r : Fin 128) :
    shapeCast S128x1 (multiReduction .add [1] S128 (mulf C C) 0x00000000#32 reduces_S128x128_S128 (.inl rfl) rfl) shapeCasts_S128_S128x1 (ix2 r 0)
      = ∑ j, C (ix2 r j) * C (ix2 r j) := by
  pointwise []

/-- The result at a place of a batch: a row of the classes the specification names, normalized. -/
theorem out_apply (X : Vec Ideal S16x4096x128 .f32) (I : Vec Ideal S16x4096 .i32) (W : Vec Ideal S128x128 .f32) (v lnw lnb : Vec Ideal S128 .f32)
    (b : Fin 16) (k : Fin 8) :
    ∃ f : Fin 128 → EReal, (∀ e, cls (f e) = proj (fX X) (fI I) (fW W) (fv v) b k e) ∧
      ∀ e, out2_8 (sums0 X I) (sums1 X I) (cnts1 I) I W v lnw lnb (ix3 b k e)
        = (f e - mean ((128 : ℝ) : EReal) f) * Ideal.rsqrt (var ((128 : ℝ) : EReal) f + ((eps : ℝ) : EReal)) * fv lnw e + fv lnb e := by
  generalize hx0 : sums0 X I = x0
  generalize hx1 : sums1 X I = x1
  generalize hx2 : cnts1 (F := Ideal) I = x2
  have l0 : View.ld x0 r2_0 = x0 := View.ld_unit_lit _ _ (by decide)
  have l1 : View.ld x1 r2_1 = x1 := View.ld_unit_lit _ _ (by decide)
  have l3 : View.ld x2 r2_3 = x2 := View.ld_unit_lit _ _ (by decide)
  have lW : View.ld W r2_4 = W := View.ld_unit_lit _ _ (by decide)
  have lv : ∀ u : Vec Ideal S128 .f32, View.ld u r2_5 = u := fun u => View.ld_unit_lit _ _ (by decide)
  have l2 : ∀ (b : Fin 6) (n : Fin 4096), View.ld I r2_2 (ix2 b n) = I (ix2 ⟨b, by omega⟩ n) := fun b n =>
    View.ld_unit_apply_of I _ _ _ _ _ (by intro a; match a with | ⟨0, _⟩ => simp | ⟨1, _⟩ => simp)
  -- the means and the selection
  have hc : ∀ b s, cntM (View.ld I r2_2) x2 (ix2 b s) = cnt (fI I) b s := fun b s => by rw [← hx2]; exact cntM_apply _ I l2 b s
  have hm : ∀ b s d, cls (k2_pay63 x0 x1 x2 I W v lnw lnb (ix3 b s d)) = segMean (fX X) (fI I) b s d := fun b s d => by
    unfold k2_pay63
    rw [l0, l1, l3]
    exact Select.mean_apply _ _ _ _ _ _ _ _ _ _ _ _ _ _ _ _ _ _ (fX X) (fI I) (fun b s d => by rw [← hx0, ← hx1]; exact sums X I b s d) hc b s d
  have hs : ∀ (b : Fin 16) (k : Fin 8) (s : Fin 16), k2_pay64 x0 x1 x2 I W v lnw lnb (ix3 b k s)
      = if rank (fI I) b s = k ∧ 0 < cntN (fI I) b s then (1 : EReal) else 0 := fun b k s => by
    unfold k2_pay64
    rw [l3]
    exact Select.sel_apply _ _ _ _ _ _ _ _ _ _ _ _ _ _ _ _ _ (fI I) hc b k s
  obtain ⟨q13, q14, q15, h13, h14, h15, e46⟩ := pay46_split W v (k2_pay63 x0 x1 x2 I W v lnw lnb) (k2_pay64 x0 x1 x2 I W v lnw lnb)
    (k2_pay65 x0 x1 x2 I W v lnw lnb) (k2_pay66 x0 x1 x2 I W v lnw lnb) (k2_pay67 x0 x1 x2 I W v lnw lnb) (k2_pay68 x0 x1 x2 I W v lnw lnb) (k2_pay69 x0 x1 x2 I W v lnw lnb) (k2_pay70 x0 x1 x2 I W v lnw lnb) (k2_pay71 x0 x1 x2 I W v lnw lnb) (k2_pay72 x0 x1 x2 I W v lnw lnb) (k2_pay73 x0 x1 x2 I W v lnw lnb) (k2_pay75 x0 x1 x2 I W v lnw lnb) (k2_pay76 x0 x1 x2 I W v lnw lnb) (k2_pay77 x0 x1 x2 I W v lnw lnb) (k2_pay78 x0 x1 x2 I W v lnw lnb)
  have hb := fun k d => vec16 (fun b (p : FVec Ideal S8x128 .f32) =>
      cls (p (ix2 k d)) = pooled (fX X) (fI I) b k d) (k2_pay65 x0 x1 x2 I W v lnw lnb) (k2_pay66 x0 x1 x2 I W v lnw lnb) (k2_pay67 x0 x1 x2 I W v lnw lnb) (k2_pay68 x0 x1 x2 I W v lnw lnb) (k2_pay69 x0 x1 x2 I W v lnw lnb) (k2_pay70 x0 x1 x2 I W v lnw lnb) (k2_pay71 x0 x1 x2 I W v lnw lnb) (k2_pay72 x0 x1 x2 I W v lnw lnb) (k2_pay73 x0 x1 x2 I W v lnw lnb) (k2_pay75 x0 x1 x2 I W v lnw lnb) (k2_pay76 x0 x1 x2 I W v lnw lnb) (k2_pay77 x0 x1 x2 I W v lnw lnb) (k2_pay78 x0 x1 x2 I W v lnw lnb) q13 q14 q15
    ((congrArg cls (Pool.piece_0 _ _ k d)).trans (batch_cls _ _ _ _ hm hs 0 k d))
    ((congrArg cls (Pool.piece_1 _ _ k d)).trans (batch_cls _ _ _ _ hm hs 1 k d))
    ((congrArg cls (Pool.piece_2 _ _ k d)).trans (batch_cls _ _ _ _ hm hs 2 k d))
    ((congrArg cls (Pool.piece_3 _ _ k d)).trans (batch_cls _ _ _ _ hm hs 3 k d))
    ((congrArg cls (Pool.piece_4 _ _ k d)).trans (batch_cls _ _ _ _ hm hs 4 k d))
    ((congrArg cls (Pool.piece_5 _ _ k d)).trans (batch_cls _ _ _ _ hm hs 5 k d))
    ((congrArg cls (Pool.piece_6 _ _ k d)).trans (batch_cls _ _ _ _ hm hs 6 k d))
    ((congrArg cls (Pool.piece_7 _ _ k d)).trans (batch_cls _ _ _ _ hm hs 7 k d))
    ((congrArg cls (Pool.piece_8 _ _ k d)).trans (batch_cls _ _ _ _ hm hs 8 k d))
    ((congrArg cls (Pool.piece_9 _ _ k d)).trans (batch_cls _ _ _ _ hm hs 9 k d))
    ((congrArg cls (Pool.piece_10 _ _ k d)).trans (batch_cls _ _ _ _ hm hs 10 k d))
    ((congrArg cls (Pool.piece_11 _ _ k d)).trans (batch_cls _ _ _ _ hm hs 11 k d))
    ((congrArg cls (Pool.piece_12 _ _ k d)).trans (batch_cls _ _ _ _ hm hs 12 k d))
    ((congrArg cls (h13 k d)).trans (batch_cls _ _ _ _ hm hs 13 k d))
    ((congrArg cls (h14 k d)).trans (batch_cls _ _ _ _ hm hs 14 k d))
    ((congrArg cls (h15 k d)).trans (batch_cls _ _ _ _ hm hs 15 k d))
  have hr : 8 * b.val + k.val < 128 := by omega
  have hrow := fun d => concat_rows (k2_pay65 x0 x1 x2 I W v lnw lnb) (k2_pay66 x0 x1 x2 I W v lnw lnb) (k2_pay67 x0 x1 x2 I W v lnw lnb) (k2_pay68 x0 x1 x2 I W v lnw lnb) (k2_pay69 x0 x1 x2 I W v lnw lnb) (k2_pay70 x0 x1 x2 I W v lnw lnb) (k2_pay71 x0 x1 x2 I W v lnw lnb) (k2_pay72 x0 x1 x2 I W v lnw lnb) (k2_pay73 x0 x1 x2 I W v lnw lnb) (k2_pay75 x0 x1 x2 I W v lnw lnb) (k2_pay76 x0 x1 x2 I W v lnw lnb) (k2_pay77 x0 x1 x2 I W v lnw lnb) (k2_pay78 x0 x1 x2 I W v lnw lnb) q13 q14 q15 ⟨8 * b.val + k.val, hr⟩ b k rfl d
  revert e46 hrow
  generalize concatenate S128x128 0 _ _ = P
  intro e46 hrow
  refine ⟨fun e => projected W v P (ix2 ⟨8 * b.val + k.val, hr⟩ e), fun e => ?_, fun e => ?_⟩
  · rw [projected_apply]
    unfold proj
    refine congrArg₂ (· + ·) (Finset.sum_congr rfl fun d _ => ?_) rfl
    rw [hrow, hb]
  · unfold out2_8
    rw [View.canon_unit_zero (by funext a; match a with | ⟨0, _⟩ => rfl | ⟨1, _⟩ => rfl | ⟨2, _⟩ => rfl)]
    unfold k2_pay47
    rw [lW, lv, lv, lv]
    have e46' : k2_pay46 W v (k2_pay63 x0 x1 x2 I W v lnw lnb) (k2_pay64 x0 x1 x2 I W v lnw lnb)
        (k2_pay65 x0 x1 x2 I W v lnw lnb) (k2_pay66 x0 x1 x2 I W v lnw lnb) (k2_pay67 x0 x1 x2 I W v lnw lnb) (k2_pay68 x0 x1 x2 I W v lnw lnb) (k2_pay69 x0 x1 x2 I W v lnw lnb) (k2_pay70 x0 x1 x2 I W v lnw lnb) (k2_pay71 x0 x1 x2 I W v lnw lnb) (k2_pay72 x0 x1 x2 I W v lnw lnb) (k2_pay73 x0 x1 x2 I W v lnw lnb) (k2_pay75 x0 x1 x2 I W v lnw lnb) (k2_pay76 x0 x1 x2 I W v lnw lnb) (k2_pay77 x0 x1 x2 I W v lnw lnb) (k2_pay78 x0 x1 x2 I W v lnw lnb)
        (k2_pay79 x0 x1 x2 I W v lnw lnb) (k2_pay80 x0 x1 x2 I W v lnw lnb) (k2_pay81 x0 x1 x2 I W v lnw lnb) (k2_pay74 x0 x1 x2 I W v lnw lnb)
          = center (projected W v P) := e46
    rw [e46']
    have h := last_apply lnw lnb (center (projected W v P))
      (shapeCast S128x1 (multiReduction .add [1] S128 (mulf (center (projected W v P)) (center (projected W v P))) 0x00000000#32
        reduces_S128x128_S128 (.inl rfl) rfl) shapeCasts_S128_S128x1) b k e ⟨8 * b.val + k.val, hr⟩ rfl
    rw [sq_apply] at h
    simp only [center_apply] at h
    exact h

end Cert.KernelIdeal.Final

end
-- ==== Proof.RefStages.lean ====
/- The reference's stages, each under a name (hand-written, untrusted). -/
module

public import proofs.«01_k».proof.Proof.Gen.ReferenceIdeal.Run
public import Idealize.ShloMosaic.Lib.IdealHost

@[expose] public section

set_option maxRecDepth 16384

noncomputable section

open Idealize.ShloMosaic Idealize.ShloMosaic.TcCoe Idealize.SL.Sem Idealize.ShloMosaic.StableHlo

namespace Cert.ReferenceIdeal.Stages

open Cert.ReferenceIdeal Cert.ReferenceIdeal.Gen

/-- Every item's pair of index words: its batch and its segment id. -/
def pairs (I : IVec S16x4096 32) : IVec S16x4096x2 32 :=
  concatenate S16x4096x2 2 [⟨S16x4096x1, (broadcastInDim S16x4096x1 ![0, 1] bcast_S16x4096_S16x4096x1_0_1 (broadcastInDim S16x4096 ![0, 1]
    bcast_S16x1_S16x4096_0_1 (broadcastInDim S16x1 ![0] bcast_S16_S16x1_0 (iotaInDim S16 32 0))))⟩, ⟨S16x4096x1, (broadcastInDim S16x4096x1 ![0, 1]
    bcast_S16x4096_S16x4096x1_0_1 I)⟩] concatenates_S16x4096x1_S16x4096x1_S16x4096x2_d2

/-- The segments' sums. -/
def sums (X : FVec Ideal S16x4096x128 .f32) (I : IVec S16x4096 32) : FVec Ideal S16x16x128 .f32 :=
  Host.scatterAdd scatter_S16x16x128_S16x4096x2_S16x4096x128_2_01_01_2 (broadcastInDim S16x16x128 ![] bcast_S_S16x16x128 (constant S_ .f32
    0x00000000#32)) (pairs I) X

/-- The segments' counts. -/
def counts (I : IVec S16x4096 32) : IVec S16x16 32 :=
  Host.scatter scatter_S16x16_S16x4096x2_S16x4096_n_01_01_2 IntOp.addi (broadcastInDim S16x16 ![] bcast_S_S16x16 (constantI S_ 32 0#32)) (pairs I)
    (broadcastInDim S16x4096 ![] bcast_S_S16x4096 (constantI S_ 32 1#32))

/-- The eight segments that a stable sort by descending count puts first. -/
def order (N : IVec S16x16 32) : IVec S16x8 32 :=
  extractStridedSlice S16x8 ![0, 0] ((Host.sort2 S16x16 1 comparator_i32_i32_d1 (negi N) (iotaInDim S16x16 32 1)).2) slices_S16x16_S16x8_0_0

/-- Every place's pair of index words: its batch and the segment there. -/
def places (o : IVec S16x8 32) : IVec S16x8x2 32 :=
  concatenate S16x8x2 2 [⟨S16x8x1, (broadcastInDim S16x8x1 ![0, 1] bcast_S16x8_S16x8x1_0_1 (broadcastInDim S16x8 ![0, 1] bcast_S16x1_S16x8_0_1 (select
    (cmpi .slt (broadcastInDim S16x1 ![0] bcast_S16_S16x1_0 (iotaInDim S16 32 0)) (broadcastInDim S16x1 ![] bcast_S_S16x1 (constantI S_ 32 0#32)))
    (addi (broadcastInDim S16x1 ![0] bcast_S16_S16x1_0 (iotaInDim S16 32 0)) (broadcastInDim S16x1 ![] bcast_S_S16x1 (constantI S_ 32 16#32)))
    (broadcastInDim S16x1 ![0] bcast_S16_S16x1_0 (iotaInDim S16 32 0)))))⟩, ⟨S16x8x1, (broadcastInDim S16x8x1 ![0, 1] bcast_S16x8_S16x8x1_0_1 (select
    (cmpi .slt o (broadcastInDim S16x8 ![] bcast_S_S16x8 (constantI S_ 32 0#32))) (addi o (broadcastInDim S16x8 ![] bcast_S_S16x8 (constantI S_ 32
    16#32))) o))⟩] concatenates_S16x8x1_S16x8x1_S16x8x2_d2

/-- The segments' means. -/
def means (S : FVec Ideal S16x16x128 .f32) (N : IVec S16x16 32) : FVec Ideal S16x16x128 .f32 :=
  Host.divf S (broadcastInDim S16x16x128 ![0, 1, 2] bcast_S16x16x1_S16x16x128_0_1_2 (sitofp .f32 (broadcastInDim S16x16x1 ![0, 1]
    bcast_S16x16_S16x16x1_0_1 (maxsi N (broadcastInDim S16x16 ![] bcast_S_S16x16 (constantI S_ 32 1#32))))))

/-- The means at the places, those of empty segments zeroed. -/
def pooling (M : FVec Ideal S16x16x128 .f32) (N : IVec S16x16 32) (p : IVec S16x8x2 32) : FVec Ideal S16x8x128 .f32 :=
  mulf (Host.gather gather_S16x16x128_S16x8x2_S16x8x128_2_01_n_n_01_2_11128 M p) (broadcastInDim S16x8x128 ![0, 1, 2] bcast_S16x8x1_S16x8x128_0_1_2
    (broadcastInDim S16x8x1 ![0, 1] bcast_S16x8_S16x8x1_0_1 (uitofp .f32 (cmpi .sgt (Host.gather gather_S16x16_S16x8x2_S16x8_n_01_n_n_01_2_11 N p)
    (broadcastInDim S16x8 ![] bcast_S_S16x8 (constantI S_ 32 0#32))))))

/-- The projection. -/
def lin (P : FVec Ideal S16x8x128 .f32) (W : FVec Ideal S128x128 .f32) (v : FVec Ideal S128 .f32) : FVec Ideal S16x8x128 .f32 :=
  addf (Host.dotGeneral dot_S16x8x128_S128x128_S16x8x128_2_0_01_1_n_n none P (transpose S128x128 [1, 0] W transposes_S128x128_S128x128_1_0))
    (broadcastInDim S16x8x128 ![0, 1, 2] bcast_S1x1x128_S16x8x128_0_1_2 (broadcastInDim S1x1x128 ![2] bcast_S128_S1x1x128_2 v))

/-- A row less its mean. -/
def centred (Y : FVec Ideal S16x8x128 .f32) : FVec Ideal S16x8x128 .f32 :=
  subf Y (broadcastInDim S16x8x128 ![0, 1, 2] bcast_S16x8x1_S16x8x128_0_1_2 (Host.divf (broadcastInDim S16x8x1 ![0, 1] bcast_S16x8_S16x8x1_0_1
    (Host.reduceAdd Y (constant S_ .f32 0x00000000#32) reducesTo_S16x8x128_S16x8_d2 h_S_)) (broadcastInDim S16x8x1 ![] bcast_S_S16x8x1 (constant S_
    .f32 0x43000000#32))))

/-- The mean of the squares of a centred row. -/
def spread (Z : FVec Ideal S16x8x128 .f32) : FVec Ideal S16x8x1 .f32 :=
  select (broadcastInDim S16x8x1 ![] bcast_S_S16x8x1 (cmpf .ogt (subf (constant S_ .f32 0x43000000#32) (sitofp .f32 (constantI S_ 32 0#32)) : FVec Ideal S_ .f32) (constant S_ .f32 0x00000000#32))) (Host.divf (broadcastInDim S16x8x1 ![0, 1] bcast_S16x8_S16x8x1_0_1
    (Host.reduceAdd (mulf Z Z) (constant S_ .f32 0x00000000#32) reducesTo_S16x8x128_S16x8_d2 h_S_)) (broadcastInDim S16x8x1 ![] bcast_S_S16x8x1 (subf
    (constant S_ .f32 0x43000000#32) (sitofp .f32 (constantI S_ 32 0#32))))) (broadcastInDim S16x8x1 ![] bcast_S_S16x8x1 (id (constant S_ .f32
    0x7FC00000#32)))

/-- The normalised row, scaled and shifted. -/
def scaled (Z : FVec Ideal S16x8x128 .f32) (V : FVec Ideal S16x8x1 .f32) (lnw lnb : FVec Ideal S128 .f32) : FVec Ideal S16x8x128 .f32 :=
  addf (mulf (Host.divf Z (broadcastInDim S16x8x128 ![0, 1, 2] bcast_S16x8x1_S16x8x128_0_1_2 (Host.sqrt (addf V (broadcastInDim S16x8x1 ![]
    bcast_S_S16x8x1 (constant S_ .f32 0x3727C5AC#32)))))) (broadcastInDim S16x8x128 ![0, 1, 2] bcast_S1x1x128_S16x8x128_0_1_2 (broadcastInDim S1x1x128
    ![2] bcast_S128_S1x1x128_2 lnw))) (broadcastInDim S16x8x128 ![0, 1, 2] bcast_S1x1x128_S16x8x128_0_1_2 (broadcastInDim S1x1x128 ![2]
    bcast_S128_S1x1x128_2 lnb))

/-- The result, of the six arguments. -/
def whole (X : FVec Ideal S16x4096x128 .f32) (I : IVec S16x4096 32) (W : FVec Ideal S128x128 .f32) (v lnw lnb : FVec Ideal S128 .f32) :
    FVec Ideal S16x8x128 .f32 :=
  let Z := centred (lin (pooling (means (sums X I) (counts I)) (counts I) (places (order (counts I)))) W v)
  scaled Z (spread Z) lnw lnb

theorem res_eq (m : (ℓ : Loc nD τ sig) → Buf (Elt Ideal) ℓ) (c : Dev nD) :
    Value.res_main_v82 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rfl

end Cert.ReferenceIdeal.Stages
-- ==== Proof.RefScatter.lean ====
/- The reference's two scatters, read at an index (hand-written, untrusted). -/
module

public import proofs.«01_k».proof.Proof.RefStages
public import proofs.«01_k».proof.Proof.Spec
public import Idealize.ShloMosaic.Lib.Pointwise
public import Idealize.ShloMosaic.Lib.Routing.OpsPair

@[expose] public section

set_option maxRecDepth 16384

noncomputable section

open Idealize.ShloMosaic Idealize.ShloMosaic.TcCoe Idealize.SL.Sem Idealize.ShloMosaic.StableHlo

namespace Cert.ReferenceIdeal.Scatter

open Cert.ReferenceIdeal Cert.ReferenceIdeal.Gen Cert.ReferenceIdeal.Stages Cert.SegPool

/-- The entries of the items' features. -/
def rX (X : FVec Ideal S16x4096x128 .f32) : Fin 16 → Fin 4096 → Fin 128 → EReal := fun b n d => X (ix3 b n d)

/-- The entries of the items' segment ids. -/
def rI (I : IVec S16x4096 32) : Fin 16 → Fin 4096 → BitVec 32 := fun b n => I (ix2 b n)

theorem pairs_batch (I : IVec S16x4096 32) (b : Fin 16) (n : Fin 4096) : pairs I (ix3 b n (0 : Fin 2)) = BitVec.ofNat 32 b := by
  pointwise [pairs]

theorem pairs_segment (I : IVec S16x4096 32) (b : Fin 16) (n : Fin 4096) : pairs I (ix3 b n (1 : Fin 2)) = rI I b n := by
  pointwise [pairs, rI]

theorem toInt_eq_iff (x : BitVec 32) (s : ℕ) (hs : s < 16) : x.toInt = (s : ℤ) ↔ x = BitVec.ofNat 32 s := by
  have h : (BitVec.ofNat 32 s).toInt = (s : ℤ) := by
    rw [BitVec.toInt_eq_toNat_of_lt] <;> rw [BitVec.toNat_ofNat, Nat.mod_eq_of_lt (by omega)] <;> omega
  constructor
  · intro e; exact BitVec.eq_of_toInt_eq (e.trans h.symm)
  · rintro rfl; exact h

theorem ofNat_toInt (b : Fin 16) : (BitVec.ofNat 32 b).toInt = (b : ℤ) := (toInt_eq_iff _ _ b.isLt).2 rfl

theorem count_lands (I : IVec S16x4096 32) (a : Fin 16) (n : Fin 4096) (b s : Fin 16) :
    scatter_S16x16_S16x4096x2_S16x4096_n_01_01_2.resultIdx? (ix2 a n) (pairs I) = some (ix2 b s) ↔ a = b ∧ rI I a n = BitVec.ofNat 32 s := by
  refine (Routing.scatter_lands2 (R := 16) (C := 16) (A := 16) (B := 4096) scatter_S16x16_S16x4096x2_S16x4096_n_01_01_2 rfl rfl rfl (pairs I) a n b s).trans ?_
  refine and_congr ?_ ?_
  · refine (show _ ↔ (BitVec.ofNat 32 a).toInt = (b : ℤ) from by rw [← pairs_batch I a n]; rfl).trans ?_
    rw [ofNat_toInt, Fin.ext_iff]; omega
  · refine (show _ ↔ (rI I a n).toInt = (s : ℤ) from by rw [← pairs_segment I a n]; rfl).trans ?_
    exact toInt_eq_iff _ _ s.isLt

theorem siIdx_eq (a : Fin 16) (n : Fin 4096) (e : Fin 128) (c : Fin 2) :
    scatter_S16x16x128_S16x4096x2_S16x4096x128_2_01_01_2.siIdx (ix3 a n e) c = ix3 a n c := by
  funext q
  refine Fin.ext ?_
  match q with
  | ⟨0, _⟩ => rfl
  | ⟨1, _⟩ => rfl
  | ⟨2, _⟩ => rfl

theorem sum_lands (I : IVec S16x4096 32) (a : Fin 16) (n : Fin 4096) (e : Fin 128) (b s : Fin 16) (d : Fin 128) :
    scatter_S16x16x128_S16x4096x2_S16x4096x128_2_01_01_2.resultIdx? (ix3 a n e) (pairs I) = some (ix3 b s d)
      ↔ a = b ∧ rI I a n = BitVec.ofNat 32 s ∧ e = d := by
  rw [Routing.resultIdx?_eq_some]
  have h0 : scatter_S16x16x128_S16x4096x2_S16x4096x128_2_01_01_2.start (ix3 a n e) (pairs I) 0 = (a : ℤ) := by
    rw [← ofNat_toInt a, ← pairs_batch I a n, ← siIdx_eq a n e 0]; rfl
  have h1 : scatter_S16x16x128_S16x4096x2_S16x4096x128_2_01_01_2.start (ix3 a n e) (pairs I) 1 = (rI I a n).toInt := by
    rw [← pairs_segment I a n, ← siIdx_eq a n e 1]; rfl
  have h2 : scatter_S16x16x128_S16x4096x2_S16x4096x128_2_01_01_2.start (ix3 a n e) (pairs I) 2 = 0 := rfl
  have w0 : scatter_S16x16x128_S16x4096x2_S16x4096x128_2_01_01_2.window (ix3 a n e) 0 = 0 := rfl
  have w1 : scatter_S16x16x128_S16x4096x2_S16x4096x128_2_01_01_2.window (ix3 a n e) 1 = 0 := rfl
  have w2 : scatter_S16x16x128_S16x4096x2_S16x4096x128_2_01_01_2.window (ix3 a n e) 2 = e := rfl
  constructor
  · intro h
    have g0 := h 0
    have g1 := h 1
    have g2 := h 2
    rw [h0, w0] at g0
    rw [h1, w1] at g1
    rw [h2, w2] at g2
    change (a : ℤ) + ((0 : ℕ) : ℤ) = (b : ℤ) at g0
    change (rI I a n).toInt + ((0 : ℕ) : ℤ) = (s : ℤ) at g1
    change (0 : ℤ) + ((e : ℕ) : ℤ) = (d : ℤ) at g2
    exact ⟨Fin.ext (by omega), (toInt_eq_iff _ _ s.isLt).1 (by omega), Fin.ext (by omega)⟩
  · rintro ⟨rfl, g, rfl⟩ q
    have g' := (toInt_eq_iff _ _ s.isLt).2 g
    match q with
    | ⟨0, _⟩ => exact (congrArg₂ (fun x (y : ℕ) => x + (y : ℤ)) h0 w0).trans (by simp)
    | ⟨1, _⟩ => exact (congrArg₂ (fun x (y : ℕ) => x + (y : ℤ)) h1 w1).trans (by rw [g']; simp)
    | ⟨2, _⟩ => exact (congrArg₂ (fun x (y : ℕ) => x + (y : ℤ)) h2 w2).trans (by simp)

/-- Adding one at each of a list's elements that pass counts them. -/
theorem foldl_count {α : Type} (p : α → Prop) [DecidablePred p] (g : α → BitVec 32) (hg : ∀ n, g n = 1#32) (l : List α) (x : BitVec 32) (k : ℕ)
    (hx : x = BitVec.ofNat 32 k) :
    l.foldl (fun a n => if p n then IntOp.addi a (g n) else a) x = BitVec.ofNat 32 (k + l.countP fun n => decide (p n)) := by
  induction l generalizing k x with
  | nil => exact hx
  | cons a l ih =>
    rw [List.foldl_cons, List.countP_cons]
    by_cases h : p a
    · rw [if_pos h, ih _ (k + 1) (by rw [hg, hx]; exact (BitVec.ofNat_add k 1).symm)]
      congr 1
      simp [h]
      omega
    · rw [if_neg h, ih _ k hx]
      simp [h]

theorem countP_finRange {n : ℕ} (p : Fin n → Prop) [DecidablePred p] :
    ((List.finRange n).countP fun i => decide (p i)) = (Finset.univ.filter p).card := by
  rw [List.countP_eq_length_filter]
  rfl

theorem counts_apply (I : IVec S16x4096 32) (b s : Fin 16) : counts I (ix2 b s) = cnt (rI I) b s := by
  unfold counts cnt
  rw [Routing.scatter_at]
  rw [foldl_count (fun n => scatter_S16x16_S16x4096x2_S16x4096_n_01_01_2.resultIdx? (S16x4096.rowMajor.symm n) (pairs I) = some (ix2 b s)) _
    (fun n => by pointwise) _ _ 0 (by pointwise)]
  rw [countP_finRange, Nat.zero_add]
  refine congrArg (BitVec.ofNat 32) ?_
  unfold cntN
  refine Finset.card_bij' (fun n _ => (S16x4096.rowMajor.symm n) 1) (fun n _ => S16x4096.rowMajor (ix2 b n)) ?_ ?_ ?_ ?_
  · intro n hn
    obtain ⟨a, n', e⟩ : ∃ (a : Fin 16) (n' : Fin 4096), S16x4096.rowMajor.symm n = ix2 a n' := ⟨_, _, ValueIdx.eq_ix2 _⟩
    rw [Finset.mem_filter, e, count_lands] at hn
    obtain ⟨-, rfl, h⟩ := hn
    exact Finset.mem_filter.2 ⟨Finset.mem_univ _, (congrArg (fun x => rI I a x) (congrFun e 1)).trans h⟩
  · intro n hn
    rw [Finset.mem_filter] at hn
    rw [Finset.mem_filter, Equiv.symm_apply_apply, count_lands]
    exact ⟨Finset.mem_univ _, rfl, hn.2⟩
  · intro n hn
    obtain ⟨a, n', e⟩ : ∃ (a : Fin 16) (n' : Fin 4096), S16x4096.rowMajor.symm n = ix2 a n' := ⟨_, _, ValueIdx.eq_ix2 _⟩
    rw [Finset.mem_filter, e, count_lands] at hn
    obtain ⟨-, rfl, h⟩ := hn
    rw [← Equiv.eq_symm_apply, e]
    rfl
  · intro n hn
    rw [Equiv.symm_apply_apply]
    rfl

theorem sums_apply (X : FVec Ideal S16x4096x128 .f32) (I : IVec S16x4096 32) (b s : Fin 16) (d : Fin 128) :
    cls (sums X I (ix3 b s d)) = segSum (rX X) (rI I) b s d := by
  have h : sums X I (ix3 b s d) = 0 + ∑ n ∈ Finset.univ.filter (fun n => rI I b n = BitVec.ofNat 32 s), rX X b n d := by
    unfold sums
    show (_ : EReal) + _ = _
    refine congrArg₂ (fun x y : EReal => x + y) (by pointwise) ?_
    refine Finset.sum_bij' (fun j _ => j 1) (fun n _ => ix3 b n d) ?_ ?_ ?_ ?_ ?_
    · intro j hj
      obtain ⟨a, n, e, rfl⟩ : ∃ (a : Fin 16) (n : Fin 4096) (e : Fin 128), j = ix3 a n e := ⟨_, _, _, ValueIdx.eq_ix3 _⟩
      rw [Finset.mem_filter, sum_lands] at hj
      obtain ⟨-, rfl, h, rfl⟩ := hj
      exact Finset.mem_filter.2 ⟨Finset.mem_univ _, h⟩
    · intro n hn
      rw [Finset.mem_filter] at hn
      rw [Finset.mem_filter, sum_lands]
      exact ⟨Finset.mem_univ _, rfl, hn.2, rfl⟩
    · intro j hj
      obtain ⟨a, n, e, rfl⟩ : ∃ (a : Fin 16) (n : Fin 4096) (e : Fin 128), j = ix3 a n e := ⟨_, _, _, ValueIdx.eq_ix3 _⟩
      rw [Finset.mem_filter, sum_lands] at hj
      obtain ⟨-, rfl, h, rfl⟩ := hj
      rfl
    · intro n hn
      rfl
    · intro j hj
      obtain ⟨a, n, e, rfl⟩ : ∃ (a : Fin 16) (n : Fin 4096) (e : Fin 128), j = ix3 a n e := ⟨_, _, _, ValueIdx.eq_ix3 _⟩
      rw [Finset.mem_filter, sum_lands] at hj
      obtain ⟨-, rfl, h, rfl⟩ := hj
      rfl
  rw [h, zero_add, Finset.sum_filter, cls_sum]
  unfold segSum
  refine Finset.sum_congr rfl fun n _ => ?_
  split_ifs
  · rfl
  · exact cls_zero

end Cert.ReferenceIdeal.Scatter
-- ==== Proof.RefSort.lean ====
/- The reference's argsort by descending count, read at an index (hand-written, untrusted). -/
module

public import proofs.«01_k».proof.Proof.RefScatter
public import Idealize.ShloMosaic.Lib.SortFacts
public import Idealize.ShloMosaic.Lib.PlanTiles.StableSort

@[expose] public section

set_option maxRecDepth 16384

noncomputable section

open Idealize.ShloMosaic Idealize.ShloMosaic.TcCoe Idealize.SL.Sem Idealize.ShloMosaic.StableHlo

namespace Cert.ReferenceIdeal.Sort

open Cert.ReferenceIdeal Cert.ReferenceIdeal.Gen Cert.ReferenceIdeal.Stages Cert.ReferenceIdeal.Scatter Cert.SegPool

/-- The segment a stable sort of batch `b` by descending count puts at each place. -/
def at_ (I : Fin 16 → Fin 4096 → BitVec 32) (b : Fin 16) : Fin 16 → Fin 16 := sortedFrom fun k k' => decide (cntN I b k' < cntN I b k)

theorem at_bijective (I : Fin 16 → Fin 4096 → BitVec 32) (b : Fin 16) : Function.Bijective (at_ I b) :=
  ⟨sortedFrom_injective _, sortedFrom_surjective _⟩

theorem sortedFrom_lex {n : ℕ} (K : Fin n → ℕ) (i j : Fin n) (h : i < j) :
    PlanTiles.Lex K (· < ·) (sortedFrom (fun k k' => decide (K k' < K k)) i) (sortedFrom (fun k k' => decide (K k' < K k)) j) := by
  have hp := List.pairwise_iff_get.mp (PlanTiles.pairwise_stableSort_lex K (· < ·) (List.finRange n) (List.pairwise_lt_finRange n))
  unfold sortedFrom
  exact hp _ _ h

theorem at_sorted (I : Fin 16 → Fin 4096 → BitVec 32) (b i j : Fin 16) (h : i < j) : Before I b (at_ I b i) (at_ I b j) := by
  have := sortedFrom_lex (fun s => cntN I b s) i j h
  unfold PlanTiles.Lex at this
  unfold Before at_
  exact this

theorem at_rank (I : Fin 16 → Fin 4096 → BitVec 32) (b k : Fin 16) : rank I b (at_ I b k) = k :=
  rank_sorted I b (at_ I b) (at_bijective I b) (fun i j h h' => Before.irrefl I b _ (h'.trans (at_sorted I b i j h))) k

theorem neg_lt (m n : ℕ) (hm : m ≤ 4096) (hn : n ≤ 4096) :
    (IntOp.cmpi .slt (-(BitVec.ofNat 32 m)) (-(BitVec.ofNat 32 n)) == 1#1) = decide (n < m) := by
  have h : ∀ k : ℕ, k ≤ 4096 → (-(BitVec.ofNat 32 k)).toInt = -(k : ℤ) := by
    intro k hk
    have : (BitVec.ofNat 32 k).toInt = (k : ℤ) := by
      rw [BitVec.toInt_eq_toNat_of_lt] <;> rw [BitVec.toNat_ofNat, Nat.mod_eq_of_lt (by omega)] <;> omega
    rw [BitVec.toInt_neg, this, Int.bmod_def]
    split <;> omega
  have e : IntOp.cmpi .slt (-(BitVec.ofNat 32 m)) (-(BitVec.ofNat 32 n)) = BitVec.ofBool (decide (n < m)) := by
    show BitVec.ofBool ((-(BitVec.ofNat 32 m)).slt (-(BitVec.ofNat 32 n))) = _
    rw [BitVec.slt, h m hm, h n hn]
    congr 1
    exact decide_eq_decide.2 (by omega)
  rw [e]
  cases decide (n < m) <;> rfl

/-- A stable sort of a matrix's rows, its second operand read at an index. -/
theorem sort2_snd {R C : ℕ} {α β : Type} (cmp : α × β → α × β → BitVec 1) (x : (⟨2, ![R, C]⟩ : Shape).Idx → α) (y : (⟨2, ![R, C]⟩ : Shape).Idx → β)
    (b : Fin R) (k : Fin C) :
    (Host.sort2 ⟨2, ![R, C]⟩ 1 cmp x y).2 (ix2 b k)
      = y (ix2 b (sortedFrom (fun p q => cmp (x (ix2 b p), y (ix2 b p)) (x (ix2 b q), y (ix2 b q)) == 1#1) k)) := by
  have h : ∀ z : Fin C, (ix2 b k : (⟨2, ![R, C]⟩ : Shape).Idx).along 1 z = ix2 b z := by
    intro z
    funext a
    match a with
    | ⟨0, _⟩ => rfl
    | ⟨1, _⟩ => rfl
  unfold Host.sort2
  rw [dif_pos (show 1 < (⟨2, ![R, C]⟩ : Shape).rank from Nat.one_lt_two)]
  refine (congrArg y (h _)).trans ?_
  refine congrArg (fun f : Fin C → Fin C → Bool => y (ix2 b (sortedFrom f k))) ?_
  funext p q
  exact congrArg₂ (fun u w => cmp (x u, y u) (x w, y w) == 1#1) (h p) (h q)

theorem iota_apply (b s : Fin 16) : iotaInDim S16x16 32 1 (ix2 b s) = BitVec.ofNat 32 s := rfl

theorem sorted_apply (I : Fin 16 → Fin 4096 → BitVec 32) (N : IVec S16x16 32) (hN : ∀ b s : Fin 16, N (ix2 b s) = cnt I b s) (b k : Fin 16) :
    (Host.sort2 S16x16 1 comparator_i32_i32_d1 (negi N) (iotaInDim S16x16 32 1)).2 (ix2 b k) = BitVec.ofNat 32 (at_ I b k) := by
  refine (sort2_snd comparator_i32_i32_d1 (negi N) (iotaInDim S16x16 32 1) b k).trans ?_
  rw [iota_apply]
  have hf : (fun p q : Fin 16 => comparator_i32_i32_d1 (negi N (ix2 b p), iotaInDim S16x16 32 1 (ix2 b p))
      (negi N (ix2 b q), iotaInDim S16x16 32 1 (ix2 b q)) == 1#1) = fun p q => decide (cntN I b q < cntN I b p) := by
    funext p q
    have hn : ∀ z : Fin 16, negi N (ix2 b z) = -(cnt I b z) := fun z => congrArg (fun w : BitVec 32 => -w) (hN b z)
    rw [hn, hn]
    exact neg_lt _ _ (cntN_le I b p) (cntN_le I b q)
  exact congrArg (fun f : Fin 16 → Fin 16 → Bool => BitVec.ofNat 32 (sortedFrom f k : ℕ)) hf

/-- A place among the sixteen. -/
def up (k : Fin 8) : Fin 16 := ⟨k, by omega⟩

theorem order_apply (I : Fin 16 → Fin 4096 → BitVec 32) (N : IVec S16x16 32) (hN : ∀ b s : Fin 16, N (ix2 b s) = cnt I b s) (b : Fin 16) (k : Fin 8) :
    order N (ix2 b k) = BitVec.ofNat 32 (at_ I b (up k)) := by
  rw [← sorted_apply I N hN b (up k)]
  unfold order
  generalize (Host.sort2 S16x16 1 comparator_i32_i32_d1 (negi N) (iotaInDim S16x16 32 1)).2 = y
  pointwise [up]

end Cert.ReferenceIdeal.Sort
-- ==== Proof.RefPool.lean ====
/- The reference's means, gathers and projection, read at an index (hand-written, untrusted). -/
module

public import proofs.«01_k».proof.Proof.RefSort

@[expose] public section

set_option maxRecDepth 16384

noncomputable section

open Idealize.ShloMosaic Idealize.ShloMosaic.TcCoe Idealize.SL.Sem Idealize.ShloMosaic.StableHlo

namespace Cert.ReferenceIdeal.Pool

open Cert.ReferenceIdeal Cert.ReferenceIdeal.Gen Cert.ReferenceIdeal.Stages Cert.ReferenceIdeal.Scatter Cert.ReferenceIdeal.Sort Cert.SegPool

/-- A place that holds the word of a segment is not wrapped. -/
theorem wrap_ofNat (s : Fin 16) (a : BitVec 32) :
    Scalar.select (IntOp.cmpi .slt (BitVec.ofNat 32 s) 0#32) a (BitVec.ofNat 32 s) = BitVec.ofNat 32 s :=
  Routing.wrap_of_lt _ _ (by rw [BitVec.toNat_ofNat, Nat.mod_eq_of_lt (by omega)]; omega)

theorem places_batch (o : IVec S16x8 32) (b : Fin 16) (k : Fin 8) : places o (ix3 b k (0 : Fin 2)) = BitVec.ofNat 32 b := by
  refine Eq.trans ?_ (wrap_ofNat b (IntOp.addi (BitVec.ofNat 32 b) 16#32))
  pointwise [places]

theorem places_segment (o : IVec S16x8 32) (b s : Fin 16) (k : Fin 8) (h : o (ix2 b k) = BitVec.ofNat 32 s) :
    places o (ix3 b k (1 : Fin 2)) = BitVec.ofNat 32 s := by
  refine Eq.trans ?_ (wrap_ofNat s (IntOp.addi (BitVec.ofNat 32 s) 16#32))
  rw [← h]
  pointwise [places]

theorem clamp_ofNat (s : Fin 16) : min (BitVec.ofNat 32 s).toInt.toNat (16 - 1) = s := by
  rw [ofNat_toInt]
  omega

section
variable {α : Type}

theorem siIdx_scalar (b : Fin 16) (k : Fin 8) (c : Fin 2) : gather_S16x16_S16x8x2_S16x8_n_01_n_n_01_2_11.siIdx (ix2 b k) c = ix3 b k c := by
  funext q
  refine Fin.ext ?_
  match q with
  | ⟨0, _⟩ => rfl
  | ⟨1, _⟩ => rfl
  | ⟨2, _⟩ => rfl

theorem siIdx_row (b : Fin 16) (k : Fin 8) (e : Fin 128) (c : Fin 2) :
    gather_S16x16x128_S16x8x2_S16x8x128_2_01_n_n_01_2_11128.siIdx (ix3 b k e) c = ix3 b k c := by
  funext q
  refine Fin.ext ?_
  match q with
  | ⟨0, _⟩ => rfl
  | ⟨1, _⟩ => rfl
  | ⟨2, _⟩ => rfl

theorem gather_scalar (x : S16x16.Idx → α) (p : IVec S16x8x2 32) (b s : Fin 16) (k : Fin 8) (h0 : p (ix3 b k (0 : Fin 2)) = BitVec.ofNat 32 b)
    (h1 : p (ix3 b k (1 : Fin 2)) = BitVec.ofNat 32 s) : Host.gather gather_S16x16_S16x8x2_S16x8_n_01_n_n_01_2_11 x p (ix2 b k) = x (ix2 b s) := by
  have e0 : gather_S16x16_S16x8x2_S16x8_n_01_n_n_01_2_11.start (ix2 b k) p 0 = b := by
    rw [← clamp_ofNat b, ← h0, ← siIdx_scalar b k 0]; rfl
  have e1 : gather_S16x16_S16x8x2_S16x8_n_01_n_n_01_2_11.start (ix2 b k) p 1 = s := by
    rw [← clamp_ofNat s, ← h1, ← siIdx_scalar b k 1]; rfl
  unfold Host.gather
  refine congrArg x ?_
  funext a
  refine Fin.ext ?_
  match a with
  | ⟨0, _⟩ => exact e0
  | ⟨1, _⟩ => exact e1

theorem gather_row (x : S16x16x128.Idx → α) (p : IVec S16x8x2 32) (b s : Fin 16) (k : Fin 8) (e : Fin 128)
    (h0 : p (ix3 b k (0 : Fin 2)) = BitVec.ofNat 32 b) (h1 : p (ix3 b k (1 : Fin 2)) = BitVec.ofNat 32 s) :
    Host.gather gather_S16x16x128_S16x8x2_S16x8x128_2_01_n_n_01_2_11128 x p (ix3 b k e) = x (ix3 b s e) := by
  have e0 : gather_S16x16x128_S16x8x2_S16x8x128_2_01_n_n_01_2_11128.start (ix3 b k e) p 0 = b := by
    rw [← clamp_ofNat b, ← h0, ← siIdx_row b k e 0]; rfl
  have e1 : gather_S16x16x128_S16x8x2_S16x8x128_2_01_n_n_01_2_11128.start (ix3 b k e) p 1 = s := by
    rw [← clamp_ofNat s, ← h1, ← siIdx_row b k e 1]; rfl
  unfold Host.gather
  refine congrArg x ?_
  funext a
  refine Fin.ext ?_
  match a with
  | ⟨0, _⟩ => exact e0
  | ⟨1, _⟩ => exact e1
  | ⟨2, _⟩ => exact Nat.zero_add _

end

end Cert.ReferenceIdeal.Pool
-- ==== Proof.RefFinal.lean ====
/- The reference's result, read at an index (hand-written, untrusted). -/
module

public import proofs.«01_k».proof.Proof.RefPool
public import proofs.«01_k».proof.Proof.Select

@[expose] public section

set_option maxRecDepth 16384

noncomputable section

open Idealize.ShloMosaic Idealize.ShloMosaic.TcCoe Idealize.SL.Sem Idealize.ShloMosaic.StableHlo

namespace Cert.ReferenceIdeal.Final

open Cert.ReferenceIdeal Cert.ReferenceIdeal.Gen Cert.ReferenceIdeal.Stages Cert.ReferenceIdeal.Scatter Cert.ReferenceIdeal.Sort
open Cert.ReferenceIdeal.Pool Cert.SegPool
open Cert.KernelIdeal.Select (den sgt_eq_one bit_cases)

/-- The rows of the projection's weights. -/
def rW (W : FVec Ideal S128x128 .f32) : Fin 128 → Fin 128 → EReal := fun e d => W (ix2 e d)

/-- A vector's entries. -/
def rv (v : FVec Ideal S128 .f32) : Fin 128 → EReal := fun e => v (ix1 e)

theorem means_apply (S : FVec Ideal S16x16x128 .f32) (N : IVec S16x16 32) (X : Fin 16 → Fin 4096 → Fin 128 → EReal)
    (I : Fin 16 → Fin 4096 → BitVec 32) (hS : ∀ b s d, cls (S (ix3 b s d)) = segSum X I b s d) (hN : ∀ b s : Fin 16, N (ix2 b s) = cnt I b s)
    (b s : Fin 16) (d : Fin 128) : cls (means S N (ix3 b s d)) = segMean X I b s d := by
  pointwise [means]
  rw [hN, den, Ideal.div_coe (by positivity), cls_mul, cls_coe, hS]
  rfl

theorem mask_apply (I : Fin 16 → Fin 4096 → BitVec 32) (b s : Fin 16) :
    cls (FloatOps.uitofp FTy.f32 (IntOp.cmpi .sgt (cnt I b s) 0#32) : Ideal .f32) = if 0 < cntN I b s then 1 else 0 := by
  have h := sgt_eq_one (cnt I b s) 0#32
  rw [cnt_toInt, show (0#32 : BitVec 32).toInt = 0 from by decide, Nat.cast_pos] at h
  show cls (((IntOp.cmpi .sgt (cnt I b s) 0#32).toNat : ℝ) : EReal) = _
  rcases bit_cases (IntOp.cmpi .sgt (cnt I b s) 0#32) with e | e <;> rw [e] at h ⊢
  · rw [if_neg (fun g => absurd (h.2 g) (by decide)), show (0#1 : BitVec 1).toNat = 0 from rfl]
    simp
  · rw [if_pos (h.1 rfl), show (1#1 : BitVec 1).toNat = 1 from rfl]
    simp

theorem pool_apply (M : FVec Ideal S16x16x128 .f32) (N : IVec S16x16 32) (X : Fin 16 → Fin 4096 → Fin 128 → EReal)
    (I : Fin 16 → Fin 4096 → BitVec 32) (hM : ∀ b s d, cls (M (ix3 b s d)) = segMean X I b s d) (hN : ∀ b s : Fin 16, N (ix2 b s) = cnt I b s)
    (b : Fin 16) (k : Fin 8) (d : Fin 128) : cls (pooling M N (places (order N)) (ix3 b k d)) = pooled X I b k d := by
  have h0 := places_batch (order N) b k
  have h1 := places_segment (order N) b (at_ I b (up k)) k (order_apply I N hN b k)
  rw [pooled_eq X I b (at_ I b (up k)) k d (by rw [at_rank]; rfl)]
  have e : pooling M N (places (order N)) (ix3 b k d)
      = M (ix3 b (at_ I b (up k)) d) * (FloatOps.uitofp FTy.f32 (IntOp.cmpi .sgt (N (ix2 b (at_ I b (up k)))) 0#32) : Ideal .f32) := by
    rw [← gather_row M _ b _ k d h0 h1, ← gather_scalar N _ b _ k h0 h1]
    unfold pooling
    generalize Host.gather gather_S16x16x128_S16x8x2_S16x8x128_2_01_n_n_01_2_11128 M _ = G
    generalize Host.gather gather_S16x16_S16x8x2_S16x8_n_01_n_n_01_2_11 N _ = H
    pointwise
  rw [e, cls_mul, hM, hN, mask_apply]
  split_ifs <;> simp

theorem lin_apply (P : FVec Ideal S16x8x128 .f32) (W : FVec Ideal S128x128 .f32) (v : FVec Ideal S128 .f32) (b : Fin 16) (k : Fin 8) (e : Fin 128) :
    cls (lin P W v (ix3 b k e)) = (∑ d, cls (P (ix3 b k d)) * cls (rW W e d)) + cls (rv v e) := by
  have h : lin P W v (ix3 b k e) = (∑ d, P (ix3 b k d) * rW W e d) + rv v e := by
    pointwise [lin, rW, rv]
  rw [h, cls_add, cls_sum]
  simp only [cls_mul]

theorem centred_apply (Y : FVec Ideal S16x8x128 .f32) (b : Fin 16) (k : Fin 8) (e : Fin 128) :
    centred Y (ix3 b k e) = Y (ix3 b k e) - mean ((128 : ℝ) : EReal) fun e => Y (ix3 b k e) := by
  pointwise [centred, mean]
  rw [ofBits_width]

theorem spread_apply (Z : FVec Ideal S16x8x128 .f32) (b : Fin 16) (k : Fin 8) :
    spread Z (ix3 b k (0 : Fin 1)) = Ideal.div (∑ e, Z (ix3 b k e) * Z (ix3 b k e)) ((128 : ℝ) : EReal) := by
  pointwise [spread]
  have e : Ideal.ofBits FTy.f32 0x43000000#32 - (FloatOps.sitofp FTy.f32 0#32 : Ideal .f32) = ((128 : ℝ) : EReal) := by
    rw [ofBits_width]
    show ((128 : ℝ) : EReal) - (((0#32 : BitVec 32).toInt : ℝ) : EReal) = _
    rw [show (0#32 : BitVec 32).toInt = 0 from by decide]
    simp
  rw [e, if_pos (by exact_mod_cast (by norm_num : (0 : ℝ) < 128))]

theorem scaled_apply (Z : FVec Ideal S16x8x128 .f32) (V : FVec Ideal S16x8x1 .f32) (lnw lnb : FVec Ideal S128 .f32) (b : Fin 16) (k : Fin 8)
    (e : Fin 128) :
    scaled Z V lnw lnb (ix3 b k e) = Ideal.div (Z (ix3 b k e)) (Ideal.sqrt (V (ix3 b k (0 : Fin 1)) + ((eps : ℝ) : EReal))) * rv lnw e + rv lnb e := by
  pointwise [scaled, rv]
  rw [ofBits_eps]

theorem whole_apply (X : FVec Ideal S16x4096x128 .f32) (I : IVec S16x4096 32) (W : FVec Ideal S128x128 .f32) (v lnw lnb : FVec Ideal S128 .f32)
    (b : Fin 16) (k : Fin 8) :
    ∃ g : Fin 128 → EReal, (∀ e, cls (g e) = proj (rX X) (rI I) (rW W) (rv v) b k e)
      ∧ ∀ e, whole X I W v lnw lnb (ix3 b k e)
          = Ideal.div (g e - mean ((128 : ℝ) : EReal) g) (Ideal.sqrt (var ((128 : ℝ) : EReal) g + ((eps : ℝ) : EReal))) * rv lnw e + rv lnb e := by
  unfold whole
  have hN := counts_apply I
  have hM := means_apply (sums X I) (counts I) (rX X) (rI I) (sums_apply X I) hN
  have hP := pool_apply (means (sums X I) (counts I)) (counts I) (rX X) (rI I) hM hN b k
  have hY := lin_apply (pooling (means (sums X I) (counts I)) (counts I) (places (order (counts I)))) W v b k
  generalize pooling (means (sums X I) (counts I)) (counts I) (places (order (counts I))) = P at *
  generalize lin P W v = Y at *
  refine ⟨fun e => Y (ix3 b k e), fun e => ?_, fun e => ?_⟩
  · rw [hY]
    simp only [hP]
    rfl
  · show scaled (centred Y) (spread (centred Y)) lnw lnb (ix3 b k e) = _
    rw [scaled_apply, spread_apply]
    simp only [centred_apply]
    rfl

end Cert.ReferenceIdeal.Final
-- ==== Proof.Agree.lean ====
/- The kernel's result and the reference's are one function of the six arguments (hand-written, untrusted). -/
module

public import proofs.«01_k».proof.Proof.Final
public import proofs.«01_k».proof.Proof.RefFinal

@[expose] public section

set_option maxRecDepth 16384

noncomputable section

open Idealize.ShloMosaic Idealize.ShloMosaic.TcCoe Idealize.SL.Sem

namespace Cert.SegPool

open Cert.KernelIdeal Cert.KernelIdeal.Gen Cert.KernelIdeal.Regions

theorem agree (X : FVec Ideal S16x4096x128 .f32) (I : IVec S16x4096 32) (W : FVec Ideal S128x128 .f32) (v lnw lnb : FVec Ideal S128 .f32) :
    (Cert.ReferenceIdeal.Stages.whole X I W v lnw lnb : S16x8x128.Idx → EReal)
      = out2_8 (F := Ideal) (sums0 X I) (sums1 X I) (cnts1 (F := Ideal) I) I W v lnw lnb := by
  funext j
  obtain ⟨b, k, e, rfl⟩ : ∃ (b : Fin 16) (k : Fin 8) (e : Fin 128), j = ix3 b k e := ⟨_, _, _, ValueIdx.eq_ix3 j⟩
  obtain ⟨f, hf, hk⟩ := Cert.KernelIdeal.Final.out_apply X I W v lnw lnb b k
  obtain ⟨g, hg, hr⟩ := Cert.ReferenceIdeal.Final.whole_apply X I W v lnw lnb b k
  refine (hr e).trans (Eq.trans ?_ (hk e).symm)
  refine congrArg (fun t : EReal => t * lnw (ix1 e) + lnb (ix1 e)) ?_
  exact (norm_congr (n := 128) (e := eps) (by norm_num) eps_pos f g (fun d => (hf d).trans (hg d).symm) e).symm

end Cert.SegPool
-- ==== Proof.RunValues.lean ====
/- The run of the kernel program with its result (hand-written, untrusted): the generated frame's launch
   (Gen/KernelIdeal/Frame.lean `frame`), read at one more buffer. Every execution terminates with the result array at the last
   boundary's contents `W3`, the arguments as launched, and every semaphore counter at zero. The launch set-up follows the
   generated theorem; the post has one conjunct more. -/
module

public import proofs.«01_k».proof.Proof.Gen.KernelIdeal.Frame

@[expose] public section

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every execution of the kernel program from zero counters ends with the result array at the last boundary's contents, the
    arguments unchanged and the counters at zero. -/
theorem run_values : θ_run defs (onTc (τ := τ) (main (F := F))) ⟨m, fun _ => 0, ρ⟩ (fun r => (∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩), funext fun g => hz g (.inr (no_unscoped g.2))⟩)

end Cert.KernelIdeal.RunValues

end
-- ==== Proof.Region2.lean ====
/- The last kernel region's result array as a function of the arrays it reads (hand-written, untrusted). -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen

variable {F : FTy → Type} [FloatOps F]
variable (V : (c : Dev nD) → (b : Ref sig .tc) → Buf (Elt F) ((c : Thread nD τ).loc b))

theorem idx2 : ∀ t : Fin cfg2.N, win2_0.index t = ![0, 0] ∧ win2_1.index t = ![0, 0, 0] ∧ win2_2.index t = ![0, 0, 0]
    ∧ win2_3.index t = ![0, 0] ∧ win2_4.index t = ![0, 0] ∧ win2_5.index t = ![0] ∧ win2_6.index t = ![0] ∧ win2_7.index t = ![0]
    ∧ win2_8.index t = ![0, 0, 0] :=
  (by decide +kernel : ∀ t : Fin grid2.N, _)

theorem blk2_0 (c : Dev nD) (t : Fin cfg2.N) : iblk2 V c 0 t = V c main_v0 := by
  obtain ⟨h0, h1, h2, h3, h4, h5, h6, h7, -⟩ := idx2 t
  blk_ext! [iblk2, h0]
theorem blk2_1 (c : Dev nD) (t : Fin cfg2.N) : iblk2 V c 1 t = V c main_v1_0 := by
  obtain ⟨h0, h1, h2, h3, h4, h5, h6, h7, -⟩ := idx2 t
  blk_ext! [iblk2, h1]
theorem blk2_2 (c : Dev nD) (t : Fin cfg2.N) : iblk2 V c 2 t = V c main_v1_1 := by
  obtain ⟨h0, h1, h2, h3, h4, h5, h6, h7, -⟩ := idx2 t
  blk_ext! [iblk2, h2]
theorem blk2_3 (c : Dev nD) (t : Fin cfg2.N) : iblk2 V c 3 t = V c main_arg1 := by
  obtain ⟨h0, h1, h2, h3, h4, h5, h6, h7, -⟩ := idx2 t
  blk_ext! [iblk2, h3]
theorem blk2_4 (c : Dev nD) (t : Fin cfg2.N) : iblk2 V c 4 t = V c main_arg2 := by
  obtain ⟨h0, h1, h2, h3, h4, h5, h6, h7, -⟩ := idx2 t
  blk_ext! [iblk2, h4]
theorem blk2_5 (c : Dev nD) (t : Fin cfg2.N) : iblk2 V c 5 t = V c main_arg3 := by
  obtain ⟨h0, h1, h2, h3, h4, h5, h6, h7, -⟩ := idx2 t
  blk_ext! [iblk2, h5]
theorem blk2_6 (c : Dev nD) (t : Fin cfg2.N) : iblk2 V c 6 t = V c main_arg4 := by
  obtain ⟨h0, h1, h2, h3, h4, h5, h6, h7, -⟩ := idx2 t
  blk_ext! [iblk2, h6]
theorem blk2_7 (c : Dev nD) (t : Fin cfg2.N) : iblk2 V c 7 t = V c main_arg5 := by
  obtain ⟨h0, h1, h2, h3, h4, h5, h6, h7, -⟩ := idx2 t
  blk_ext! [iblk2, h7]

theorem final2 (c : Dev nD) : (dat2 V c).arrAt 8 cfg2.N
    = out2_8 (V c main_v0) (V c main_v1_0) (V c main_v1_1) (V c main_arg1) (V c main_arg2) (V c main_arg3) (V c main_arg4)
        (V c main_arg5) := by
  refine (dat2 V c).arrAt_eq_of_covers 8 _ (by decide +kernel) fun t _ y => ?_
  rw [after2_8, blk2_0, blk2_1, blk2_2, blk2_3, blk2_4, blk2_5, blk2_6, blk2_7]
  obtain ⟨-, -, -, -, -, -, -, -, h8⟩ := idx2 t
  refine congrArg _ ?_
  blk_ext! [h8]

end Cert.KernelIdeal.Regions

end
-- ==== Proof.Result.lean ====
/- The kernel's result array as a function of its arguments (hand-written, untrusted). -/
module

public import proofs.«01_k».proof.Proof.Regions
public import proofs.«01_k».proof.Proof.Region2

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Regions

variable {F : FTy → Type} [FloatOps F] (m : (ℓ : Loc nD τ sig) → Buf (Elt F) ℓ) (ρ : Dev nD → PrngReg)

theorem result (c : Dev nD) : W3 m ρ c (Proc.devRef .tc main_v2)
    = out2_8 (sums0 (m ((c : Thread nD τ).loc main_arg0)) (m ((c : Thread nD τ).loc main_arg1)))
        (sums1 (m ((c : Thread nD τ).loc main_arg0)) (m ((c : Thread nD τ).loc main_arg1)))
        (cnts1 (F := F) (m ((c : Thread nD τ).loc main_arg1)))
        (m ((c : Thread nD τ).loc main_arg1)) (m ((c : Thread nD τ).loc main_arg2)) (m ((c : Thread nD τ).loc main_arg3))
        (m ((c : Thread nD τ).loc main_arg4)) (m ((c : Thread nD τ).loc main_arg5)) := by
  have a2 : ∀ a ∈ argRefs, V2 m ρ c a = m ((c : Thread nD τ).loc a) := W2_args m ρ c
  have a1 : ∀ a ∈ argRefs, V1 m ρ c a = m ((c : Thread nD τ).loc a) := W1_args m ρ c
  have e0 : V2 m ρ c main_v0 = sums0 (m ((c : Thread nD τ).loc main_arg0)) (m ((c : Thread nD τ).loc main_arg1)) :=
    (W2_of_ne m ρ c main_v0 (by decide)).trans ((W1_arr m ρ c 2).trans (final0 (V0 m ρ) c))
  have e1 : V2 m ρ c main_v1_0 = sums1 (m ((c : Thread nD τ).loc main_arg0)) (m ((c : Thread nD τ).loc main_arg1)) :=
    (W2_arr m ρ c 2).trans ((final1_sums (V1 m ρ) c).trans (by rw [a1 main_arg0 (by decide), a1 main_arg1 (by decide)]))
  have e2 : V2 m ρ c main_v1_1 = cnts1 (F := F) (m ((c : Thread nD τ).loc main_arg1)) :=
    (W2_arr m ρ c 3).trans ((final1_cnts (V1 m ρ) c).trans (by rw [a1 main_arg1 (by decide)]))
  refine (W3_arr m ρ c 8).trans ((final2 (V2 m ρ) c).trans ?_)
  rw [e0, e1, e2, a2 main_arg1 (by decide), a2 main_arg2 (by decide), a2 main_arg3 (by decide), a2 main_arg4 (by decide), a2 main_arg5 (by decide)]

end Cert.KernelIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Agree
public import proofs.«01_k».proof.Proof.RunValues
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Gen.W3 m ρ c (Proc.devRef .tc Cert.KernelIdeal.main_v2),
    (θ_run Cert.KernelIdeal.defs _ _).mono (fun r h => h.1) (Cert.KernelIdeal.RunValues.run_values (F := Ideal) m ρ),
    (θ_run Cert.ReferenceIdeal.defs _ _).mono (fun r h c => ⟨(h c).1.trans ?_, (h c).2⟩) (Cert.ReferenceIdeal.Value.run (F := Ideal) m' ρ')⟩
  obtain ⟨h0, h1, h2, h3, h4, h5⟩ := hagree c
  rw [Cert.ReferenceIdeal.Stages.res_eq, h0, h1, h2, h3, h4, h5]
  exact (Cert.SegPool.agree _ _ _ _ _ _).trans (Cert.KernelIdeal.Result.result m ρ c).symm

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_frame, trivial, value⟩

end Cert.Proof

end
